-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 32768]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S16x32x1024 : Shape := ⟨3, ![16, 32, 1024]⟩
abbrev S15x32x1024 : Shape := ⟨3, ![15, 32, 1024]⟩
abbrev S15 : Shape := ⟨1, ![15]⟩
abbrev S_ : Shape := ⟨0, ![]⟩
abbrev S32x1024 : Shape := ⟨2, ![32, 1024]⟩
abbrev S32x2048 : Shape := ⟨2, ![32, 2048]⟩
abbrev S1x32x1024 : Shape := ⟨3, ![1, 32, 1024]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S2048x1024, .f32⟩
  | .hbm, ⟨3, _⟩ => ⟨S1024x1024, .f32⟩
  | .local _ .vmem, ⟨0, _⟩ => ⟨S1024x1024, .f32⟩
  | .local _ .vmem, ⟨1, _⟩ => ⟨S1024x2048, .f32⟩
  | .local _ .vmem, ⟨2, _⟩ => ⟨S2048x1024, .f32⟩
  | .local _ .vmem, ⟨3, _⟩ => ⟨S1024x1024, .f32⟩
  | .local _ .vmem, ⟨4, _⟩ => ⟨S16x32x1024, .f32⟩
  | .local _ .vmem, ⟨5, _⟩ => ⟨S16x32x1024, .f32⟩
  | .local _ .vmem, ⟨6, _⟩ => ⟨S15x32x1024, .f32⟩
  | .local _ .vmem, ⟨7, _⟩ => ⟨S15x32x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  (ofTc nBuf bufTy 1 124 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_79 : BitVec 32 := 1#32
  let v94 : BitVec 32 := Scalar.muli v92 c1_i32_79
  let v95 : BitVec 32 := Scalar.addi c0_i32_80 v94
  v95.toNat
def k0_dev2 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_82 : BitVec 32 := 1#32
  let v96 : BitVec 32 := Scalar.muli v62 c1_i32_82
  let v97 : BitVec 32 := Scalar.addi c0_i32_83 v96
  v97.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c64_i32 : BitVec 32 := 64#32
  let v98 : BitVec 32 := Scalar.muli v32 c64_i32
  let v99 : Index := Scalar.indexCast v98
  let c0 : Index := 0#32
  ![v99.toNat, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v110 : Index := Scalar.indexCast v32
  let c0_91 : Index := 0#32
  let c0_92 : Index := 0#32
  ![v110.toNat, 0, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c64_i32_93 : BitVec 32 := 64#32
  let v114 : BitVec 32 := Scalar.muli v32 c64_i32_93
  let c32_i32 : BitVec 32 := 32#32
  let v115 : BitVec 32 := Scalar.addi v114 c32_i32
  let v116 : Index := Scalar.indexCast v115
  let c0_94 : Index := 0#32
  ![v116.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_104 : BitVec 32 := 1#32
  let v131 : BitVec 32 := Scalar.subi v32 c1_i32_104
  let c16_i32_105 : BitVec 32 := 16#32
  let c0_i32_106 : BitVec 32 := 0#32
  let v132 : BitVec 1 := Scalar.cmpi .eq c16_i32_105 c0_i32_106
  let c1_i32_107 : BitVec 32 := 1#32
  let v133 : BitVec 32 := Scalar.select v132 c1_i32_107 c16_i32_105
  let v134 : BitVec 32 := Scalar.remsi v131 v133
  let c0_i32_109 : BitVec 32 := 0#32
  let v136 : BitVec 1 := Scalar.cmpi .slt v134 c0_i32_109
  let c0_i32_110 : BitVec 32 := 0#32
  let v137 : BitVec 1 := Scalar.cmpi .slt v133 c0_i32_110
  let v138 : BitVec 1 := Scalar.xori v136 v137
  let c0_i32_108 : BitVec 32 := 0#32
  let v135 : BitVec 1 := Scalar.cmpi .ne v134 c0_i32_108
  let v139 : BitVec 1 := Scalar.andi v138 v135
  let v140 : BitVec 32 := Scalar.addi v134 v133
  let v141 : BitVec 32 := Scalar.select v139 v140 v134
  let c64_i32_111 : BitVec 32 := 64#32
  let v142 : BitVec 32 := Scalar.muli v141 c64_i32_111
  let v143 : Index := Scalar.indexCast v142
  let c0_112 : Index := 0#32
  ![v143.toNat, 0]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_104 : BitVec 32 := 1#32
  let v131 : BitVec 32 := Scalar.subi v32 c1_i32_104
  let c16_i32_105 : BitVec 32 := 16#32
  let c0_i32_106 : BitVec 32 := 0#32
  let v132 : BitVec 1 := Scalar.cmpi .eq c16_i32_105 c0_i32_106
  let c1_i32_107 : BitVec 32 := 1#32
  let v133 : BitVec 32 := Scalar.select v132 c1_i32_107 c16_i32_105
  let v134 : BitVec 32 := Scalar.remsi v131 v133
  let c0_i32_109 : BitVec 32 := 0#32
  let v136 : BitVec 1 := Scalar.cmpi .slt v134 c0_i32_109
  let c0_i32_110 : BitVec 32 := 0#32
  let v137 : BitVec 1 := Scalar.cmpi .slt v133 c0_i32_110
  let v138 : BitVec 1 := Scalar.xori v136 v137
  let c0_i32_108 : BitVec 32 := 0#32
  let v135 : BitVec 1 := Scalar.cmpi .ne v134 c0_i32_108
  let v139 : BitVec 1 := Scalar.andi v138 v135
  let v140 : BitVec 32 := Scalar.addi v134 v133
  let v141 : BitVec 32 := Scalar.select v139 v140 v134
  let v154 : Index := Scalar.indexCast v141
  let c0_120 : Index := 0#32
  let c0_121 : Index := 0#32
  ![v154.toNat, 0, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_122 : BitVec 32 := 1#32
  let v158 : BitVec 32 := Scalar.addi v32 c1_i32_122
  let c16_i32_123 : BitVec 32 := 16#32
  let c0_i32_124 : BitVec 32 := 0#32
  let v159 : BitVec 1 := Scalar.cmpi .eq c16_i32_123 c0_i32_124
  let c1_i32_125 : BitVec 32 := 1#32
  let v160 : BitVec 32 := Scalar.select v159 c1_i32_125 c16_i32_123
  let v161 : BitVec 32 := Scalar.remsi v158 v160
  let c0_i32_127 : BitVec 32 := 0#32
  let v163 : BitVec 1 := Scalar.cmpi .slt v161 c0_i32_127
  let c0_i32_128 : BitVec 32 := 0#32
  let v164 : BitVec 1 := Scalar.cmpi .slt v160 c0_i32_128
  let v165 : BitVec 1 := Scalar.xori v163 v164
  let c0_i32_126 : BitVec 32 := 0#32
  let v162 : BitVec 1 := Scalar.cmpi .ne v161 c0_i32_126
  let v166 : BitVec 1 := Scalar.andi v165 v162
  let v167 : BitVec 32 := Scalar.addi v161 v160
  let v168 : BitVec 32 := Scalar.select v166 v167 v161
  let c64_i32_129 : BitVec 32 := 64#32
  let v169 : BitVec 32 := Scalar.muli v168 c64_i32_129
  let c32_i32_130 : BitVec 32 := 32#32
  let v170 : BitVec 32 := Scalar.addi v169 c32_i32_130
  let v171 : Index := Scalar.indexCast v170
  let c0_131 : Index := 0#32
  ![v171.toNat, 0]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_122 : BitVec 32 := 1#32
  let v158 : BitVec 32 := Scalar.addi v32 c1_i32_122
  let c16_i32_123 : BitVec 32 := 16#32
  let c0_i32_124 : BitVec 32 := 0#32
  let v159 : BitVec 1 := Scalar.cmpi .eq c16_i32_123 c0_i32_124
  let c1_i32_125 : BitVec 32 := 1#32
  let v160 : BitVec 32 := Scalar.select v159 c1_i32_125 c16_i32_123
  let v161 : BitVec 32 := Scalar.remsi v158 v160
  let c0_i32_127 : BitVec 32 := 0#32
  let v163 : BitVec 1 := Scalar.cmpi .slt v161 c0_i32_127
  let c0_i32_128 : BitVec 32 := 0#32
  let v164 : BitVec 1 := Scalar.cmpi .slt v160 c0_i32_128
  let v165 : BitVec 1 := Scalar.xori v163 v164
  let c0_i32_126 : BitVec 32 := 0#32
  let v162 : BitVec 1 := Scalar.cmpi .ne v161 c0_i32_126
  let v166 : BitVec 1 := Scalar.andi v165 v162
  let v167 : BitVec 32 := Scalar.addi v161 v160
  let v168 : BitVec 32 := Scalar.select v166 v167 v161
  let v182 : Index := Scalar.indexCast v168
  let c0_139 : Index := 0#32
  let c0_140 : Index := 0#32
  ![v182.toNat, 0, 0]
def k0_off8 (d0 : Dev nD) (c0_i32_141 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v186 : BitVec 32 := Scalar.subi v32 c0_i32_141
  let c16_i32_142 : BitVec 32 := 16#32
  let c0_i32_143 : BitVec 32 := 0#32
  let v187 : BitVec 1 := Scalar.cmpi .eq c16_i32_142 c0_i32_143
  let c1_i32_144 : BitVec 32 := 1#32
  let v188 : BitVec 32 := Scalar.select v187 c1_i32_144 c16_i32_142
  let v189 : BitVec 32 := Scalar.remsi v186 v188
  let c0_i32_146 : BitVec 32 := 0#32
  let v191 : BitVec 1 := Scalar.cmpi .slt v189 c0_i32_146
  let c0_i32_147 : BitVec 32 := 0#32
  let v192 : BitVec 1 := Scalar.cmpi .slt v188 c0_i32_147
  let v193 : BitVec 1 := Scalar.xori v191 v192
  let c0_i32_145 : BitVec 32 := 0#32
  let v190 : BitVec 1 := Scalar.cmpi .ne v189 c0_i32_145
  let v194 : BitVec 1 := Scalar.andi v193 v190
  let v195 : BitVec 32 := Scalar.addi v189 v188
  let v196 : BitVec 32 := Scalar.select v194 v195 v189
  let c0_i32_178 : BitVec 32 := 0#32
  let c0_i32_179 : BitVec 32 := 0#32
  ![v196.toNat, 0, 0]
def k0_dev3 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_174 : BitVec 32 := 1#32
  let v232 : BitVec 32 := Scalar.muli v62 c1_i32_174
  let v233 : BitVec 32 := Scalar.addi c0_i32_175 v232
  v233.toNat
def k0_off9 (d0 : Dev nD) (c0_i32_156 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v209 : BitVec 32 := Scalar.addi v32 c0_i32_156
  let c16_i32_157 : BitVec 32 := 16#32
  let c0_i32_158 : BitVec 32 := 0#32
  let v210 : BitVec 1 := Scalar.cmpi .eq c16_i32_157 c0_i32_158
  let c1_i32_159 : BitVec 32 := 1#32
  let v211 : BitVec 32 := Scalar.select v210 c1_i32_159 c16_i32_157
  let v212 : BitVec 32 := Scalar.remsi v209 v211
  let c0_i32_161 : BitVec 32 := 0#32
  let v214 : BitVec 1 := Scalar.cmpi .slt v212 c0_i32_161
  let c0_i32_162 : BitVec 32 := 0#32
  let v215 : BitVec 1 := Scalar.cmpi .slt v211 c0_i32_162
  let v216 : BitVec 1 := Scalar.xori v214 v215
  let c0_i32_160 : BitVec 32 := 0#32
  let v213 : BitVec 1 := Scalar.cmpi .ne v212 c0_i32_160
  let v217 : BitVec 1 := Scalar.andi v216 v213
  let v218 : BitVec 32 := Scalar.addi v212 v211
  let v219 : BitVec 32 := Scalar.select v217 v218 v212
  let c0_i32_187 : BitVec 32 := 0#32
  let c0_i32_188 : BitVec 32 := 0#32
  ![v219.toNat, 0, 0]
def k0_dev4 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_183 : BitVec 32 := 1#32
  let v242 : BitVec 32 := Scalar.muli v92 c1_i32_183
  let v243 : BitVec 32 := Scalar.addi c0_i32_184 v242
  v243.toNat
def k0_off10 (d0 : Dev nD) (c0_i32_189 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v252 : BitVec 32 := Scalar.subi v32 c0_i32_189
  let c2_i32_190 : BitVec 32 := 2#32
  let v253 : BitVec 32 := Scalar.subi v252 c2_i32_190
  let c16_i32_191 : BitVec 32 := 16#32
  let c0_i32_192 : BitVec 32 := 0#32
  let v254 : BitVec 1 := Scalar.cmpi .eq c16_i32_191 c0_i32_192
  let c1_i32_193 : BitVec 32 := 1#32
  let v255 : BitVec 32 := Scalar.select v254 c1_i32_193 c16_i32_191
  let v256 : BitVec 32 := Scalar.remsi v253 v255
  let c0_i32_195 : BitVec 32 := 0#32
  let v258 : BitVec 1 := Scalar.cmpi .slt v256 c0_i32_195
  let c0_i32_196 : BitVec 32 := 0#32
  let v259 : BitVec 1 := Scalar.cmpi .slt v255 c0_i32_196
  let v260 : BitVec 1 := Scalar.xori v258 v259
  let c0_i32_194 : BitVec 32 := 0#32
  let v257 : BitVec 1 := Scalar.cmpi .ne v256 c0_i32_194
  let v261 : BitVec 1 := Scalar.andi v260 v257
  let v262 : BitVec 32 := Scalar.addi v256 v255
  let v263 : BitVec 32 := Scalar.select v261 v262 v256
  let c64_i32_197 : BitVec 32 := 64#32
  let v264 : BitVec 32 := Scalar.muli v263 c64_i32_197
  let v265 : Index := Scalar.indexCast v264
  let c0_198 : Index := 0#32
  ![v265.toNat, 0]
def k0_off11 (d0 : Dev nD) (c0_i32_189 : BitVec 32) (c2_i32_190 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v252 : BitVec 32 := Scalar.subi v32 c0_i32_189
  let v253 : BitVec 32 := Scalar.subi v252 c2_i32_190
  let c16_i32_191 : BitVec 32 := 16#32
  let c0_i32_192 : BitVec 32 := 0#32
  let v254 : BitVec 1 := Scalar.cmpi .eq c16_i32_191 c0_i32_192
  let c1_i32_193 : BitVec 32 := 1#32
  let v255 : BitVec 32 := Scalar.select v254 c1_i32_193 c16_i32_191
  let v256 : BitVec 32 := Scalar.remsi v253 v255
  let c0_i32_195 : BitVec 32 := 0#32
  let v258 : BitVec 1 := Scalar.cmpi .slt v256 c0_i32_195
  let c0_i32_196 : BitVec 32 := 0#32
  let v259 : BitVec 1 := Scalar.cmpi .slt v255 c0_i32_196
  let v260 : BitVec 1 := Scalar.xori v258 v259
  let c0_i32_194 : BitVec 32 := 0#32
  let v257 : BitVec 1 := Scalar.cmpi .ne v256 c0_i32_194
  let v261 : BitVec 1 := Scalar.andi v260 v257
  let v262 : BitVec 32 := Scalar.addi v256 v255
  let v263 : BitVec 32 := Scalar.select v261 v262 v256
  let v276 : Index := Scalar.indexCast v263
  let c0_206 : Index := 0#32
  let c0_207 : Index := 0#32
  ![v276.toNat, 0, 0]
def k0_off11_at (r : Fin 29) : BitVec 32 × BitVec 32 :=
  if r.val < 14 then
    if r.val < 7 then
      if r.val < 3 then
        if r.val < 1 then
          (0#32, 2#32)
        else
          if r.val < 2 then
            (0#32, 1#32)
          else
            (1#32, 2#32)
      else
        if r.val < 5 then
          if r.val < 4 then
            (1#32, 1#32)
          else
            (2#32, 2#32)
        else
          if r.val < 6 then
            (2#32, 1#32)
          else
            (3#32, 2#32)
    else
      if r.val < 10 then
        if r.val < 8 then
          (3#32, 1#32)
        else
          if r.val < 9 then
            (4#32, 2#32)
          else
            (4#32, 1#32)
      else
        if r.val < 12 then
          if r.val < 11 then
            (5#32, 2#32)
          else
            (5#32, 1#32)
        else
          if r.val < 13 then
            (6#32, 2#32)
          else
            (6#32, 1#32)
  else
    if r.val < 21 then
      if r.val < 17 then
        if r.val < 15 then
          (7#32, 2#32)
        else
          if r.val < 16 then
            (7#32, 1#32)
          else
            (8#32, 2#32)
      else
        if r.val < 19 then
          if r.val < 18 then
            (8#32, 1#32)
          else
            (9#32, 2#32)
        else
          if r.val < 20 then
            (9#32, 1#32)
          else
            (10#32, 2#32)
    else
      if r.val < 25 then
        if r.val < 23 then
          if r.val < 22 then
            (10#32, 1#32)
          else
            (11#32, 2#32)
        else
          if r.val < 24 then
            (11#32, 1#32)
          else
            (12#32, 2#32)
      else
        if r.val < 27 then
          if r.val < 26 then
            (12#32, 1#32)
          else
            (13#32, 2#32)
        else
          if r.val < 28 then
            (13#32, 1#32)
          else
            (14#32, 1#32)
def k0_off12 (d0 : Dev nD) (c0_i32_208 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v280 : BitVec 32 := Scalar.addi v32 c0_i32_208
  let c2_i32_209 : BitVec 32 := 2#32
  let v281 : BitVec 32 := Scalar.addi v280 c2_i32_209
  let c16_i32_210 : BitVec 32 := 16#32
  let c0_i32_211 : BitVec 32 := 0#32
  let v282 : BitVec 1 := Scalar.cmpi .eq c16_i32_210 c0_i32_211
  let c1_i32_212 : BitVec 32 := 1#32
  let v283 : BitVec 32 := Scalar.select v282 c1_i32_212 c16_i32_210
  let v284 : BitVec 32 := Scalar.remsi v281 v283
  let c0_i32_214 : BitVec 32 := 0#32
  let v286 : BitVec 1 := Scalar.cmpi .slt v284 c0_i32_214
  let c0_i32_215 : BitVec 32 := 0#32
  let v287 : BitVec 1 := Scalar.cmpi .slt v283 c0_i32_215
  let v288 : BitVec 1 := Scalar.xori v286 v287
  let c0_i32_213 : BitVec 32 := 0#32
  let v285 : BitVec 1 := Scalar.cmpi .ne v284 c0_i32_213
  let v289 : BitVec 1 := Scalar.andi v288 v285
  let v290 : BitVec 32 := Scalar.addi v284 v283
  let v291 : BitVec 32 := Scalar.select v289 v290 v284
  let c64_i32_216 : BitVec 32 := 64#32
  let v292 : BitVec 32 := Scalar.muli v291 c64_i32_216
  let c32_i32_217 : BitVec 32 := 32#32
  let v293 : BitVec 32 := Scalar.addi v292 c32_i32_217
  let v294 : Index := Scalar.indexCast v293
  let c0_218 : Index := 0#32
  ![v294.toNat, 0]
def k0_off13 (d0 : Dev nD) (c0_i32_208 : BitVec 32) (c2_i32_209 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let v280 : BitVec 32 := Scalar.addi v32 c0_i32_208
  let v281 : BitVec 32 := Scalar.addi v280 c2_i32_209
  let c16_i32_210 : BitVec 32 := 16#32
  let c0_i32_211 : BitVec 32 := 0#32
  let v282 : BitVec 1 := Scalar.cmpi .eq c16_i32_210 c0_i32_211
  let c1_i32_212 : BitVec 32 := 1#32
  let v283 : BitVec 32 := Scalar.select v282 c1_i32_212 c16_i32_210
  let v284 : BitVec 32 := Scalar.remsi v281 v283
  let c0_i32_214 : BitVec 32 := 0#32
  let v286 : BitVec 1 := Scalar.cmpi .slt v284 c0_i32_214
  let c0_i32_215 : BitVec 32 := 0#32
  let v287 : BitVec 1 := Scalar.cmpi .slt v283 c0_i32_215
  let v288 : BitVec 1 := Scalar.xori v286 v287
  let c0_i32_213 : BitVec 32 := 0#32
  let v285 : BitVec 1 := Scalar.cmpi .ne v284 c0_i32_213
  let v289 : BitVec 1 := Scalar.andi v288 v285
  let v290 : BitVec 32 := Scalar.addi v284 v283
  let v291 : BitVec 32 := Scalar.select v289 v290 v284
  let v305 : Index := Scalar.indexCast v291
  let c0_226 : Index := 0#32
  let c0_227 : Index := 0#32
  ![v305.toNat, 0, 0]
def k0_off13_at (r : Fin 29) : BitVec 32 × BitVec 32 :=
  if r.val < 14 then
    if r.val < 7 then
      if r.val < 3 then
        if r.val < 1 then
          (0#32, 2#32)
        else
          if r.val < 2 then
            (0#32, 1#32)
          else
            (1#32, 2#32)
      else
        if r.val < 5 then
          if r.val < 4 then
            (1#32, 1#32)
          else
            (2#32, 2#32)
        else
          if r.val < 6 then
            (2#32, 1#32)
          else
            (3#32, 2#32)
    else
      if r.val < 10 then
        if r.val < 8 then
          (3#32, 1#32)
        else
          if r.val < 9 then
            (4#32, 2#32)
          else
            (4#32, 1#32)
      else
        if r.val < 12 then
          if r.val < 11 then
            (5#32, 2#32)
          else
            (5#32, 1#32)
        else
          if r.val < 13 then
            (6#32, 2#32)
          else
            (6#32, 1#32)
  else
    if r.val < 21 then
      if r.val < 17 then
        if r.val < 15 then
          (7#32, 2#32)
        else
          if r.val < 16 then
            (7#32, 1#32)
          else
            (8#32, 2#32)
      else
        if r.val < 19 then
          if r.val < 18 then
            (8#32, 1#32)
          else
            (9#32, 2#32)
        else
          if r.val < 20 then
            (9#32, 1#32)
          else
            (10#32, 2#32)
    else
      if r.val < 25 then
        if r.val < 23 then
          if r.val < 22 then
            (10#32, 1#32)
          else
            (11#32, 2#32)
        else
          if r.val < 24 then
            (11#32, 1#32)
          else
            (12#32, 2#32)
      else
        if r.val < 27 then
          if r.val < 26 then
            (12#32, 1#32)
          else
            (13#32, 2#32)
        else
          if r.val < 28 then
            (13#32, 1#32)
          else
            (14#32, 1#32)
def k0_dev5 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_309 : BitVec 32 := 1#32
  let v403 : BitVec 32 := Scalar.muli v62 c1_i32_309
  let v404 : BitVec 32 := Scalar.addi c0_i32_310 v403
  v404.toNat
def k0_dev6 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_318 : BitVec 32 := 1#32
  let v413 : BitVec 32 := Scalar.muli v92 c1_i32_318
  let v414 : BitVec 32 := Scalar.addi c0_i32_319 v413
  v414.toNat
def k0_dev7 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_443 : BitVec 32 := 1#32
  let v574 : BitVec 32 := Scalar.muli v62 c1_i32_443
  let v575 : BitVec 32 := Scalar.addi c0_i32_444 v574
  v575.toNat
def k0_dev8 (d0 : Dev nD) : Nat :=
  let c0_i32_453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_452 : BitVec 32 := 1#32
  let v584 : BitVec 32 := Scalar.muli v92 c1_i32_452
  let v585 : BitVec 32 := Scalar.addi c0_i32_453 v584
  v585.toNat
def k0_dev9 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_577 : BitVec 32 := 1#32
  let v745 : BitVec 32 := Scalar.muli v62 c1_i32_577
  let v746 : BitVec 32 := Scalar.addi c0_i32_578 v745
  v746.toNat
def k0_dev10 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_586 : BitVec 32 := 1#32
  let v755 : BitVec 32 := Scalar.muli v92 c1_i32_586
  let v756 : BitVec 32 := Scalar.addi c0_i32_587 v755
  v756.toNat
def k0_dev11 (d0 : Dev nD) : Nat :=
  let c0_i32_712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_711 : BitVec 32 := 1#32
  let v916 : BitVec 32 := Scalar.muli v62 c1_i32_711
  let v917 : BitVec 32 := Scalar.addi c0_i32_712 v916
  v917.toNat
def k0_dev12 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_720 : BitVec 32 := 1#32
  let v926 : BitVec 32 := Scalar.muli v92 c1_i32_720
  let v927 : BitVec 32 := Scalar.addi c0_i32_721 v926
  v927.toNat
def k0_dev13 (d0 : Dev nD) : Nat :=
  let c0_i32_846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_845 : BitVec 32 := 1#32
  let v1087 : BitVec 32 := Scalar.muli v62 c1_i32_845
  let v1088 : BitVec 32 := Scalar.addi c0_i32_846 v1087
  v1088.toNat
def k0_dev14 (d0 : Dev nD) : Nat :=
  let c0_i32_855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_854 : BitVec 32 := 1#32
  let v1097 : BitVec 32 := Scalar.muli v92 c1_i32_854
  let v1098 : BitVec 32 := Scalar.addi c0_i32_855 v1097
  v1098.toNat
def k0_dev15 (d0 : Dev nD) : Nat :=
  let c0_i32_980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_979 : BitVec 32 := 1#32
  let v1258 : BitVec 32 := Scalar.muli v62 c1_i32_979
  let v1259 : BitVec 32 := Scalar.addi c0_i32_980 v1258
  v1259.toNat
def k0_dev16 (d0 : Dev nD) : Nat :=
  let c0_i32_989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_988 : BitVec 32 := 1#32
  let v1268 : BitVec 32 := Scalar.muli v92 c1_i32_988
  let v1269 : BitVec 32 := Scalar.addi c0_i32_989 v1268
  v1269.toNat
def k0_dev17 (d0 : Dev nD) : Nat :=
  let c0_i32_1114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1113 : BitVec 32 := 1#32
  let v1429 : BitVec 32 := Scalar.muli v62 c1_i32_1113
  let v1430 : BitVec 32 := Scalar.addi c0_i32_1114 v1429
  v1430.toNat
def k0_dev18 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1122 : BitVec 32 := 1#32
  let v1439 : BitVec 32 := Scalar.muli v92 c1_i32_1122
  let v1440 : BitVec 32 := Scalar.addi c0_i32_1123 v1439
  v1440.toNat
def k0_dev19 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1247 : BitVec 32 := 1#32
  let v1600 : BitVec 32 := Scalar.muli v62 c1_i32_1247
  let v1601 : BitVec 32 := Scalar.addi c0_i32_1248 v1600
  v1601.toNat
def k0_dev20 (d0 : Dev nD) : Nat :=
  let c0_i32_1257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1256 : BitVec 32 := 1#32
  let v1610 : BitVec 32 := Scalar.muli v92 c1_i32_1256
  let v1611 : BitVec 32 := Scalar.addi c0_i32_1257 v1610
  v1611.toNat
def k0_dev21 (d0 : Dev nD) : Nat :=
  let c0_i32_1382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1381 : BitVec 32 := 1#32
  let v1771 : BitVec 32 := Scalar.muli v62 c1_i32_1381
  let v1772 : BitVec 32 := Scalar.addi c0_i32_1382 v1771
  v1772.toNat
def k0_dev22 (d0 : Dev nD) : Nat :=
  let c0_i32_1391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1390 : BitVec 32 := 1#32
  let v1781 : BitVec 32 := Scalar.muli v92 c1_i32_1390
  let v1782 : BitVec 32 := Scalar.addi c0_i32_1391 v1781
  v1782.toNat
def k0_dev23 (d0 : Dev nD) : Nat :=
  let c0_i32_1516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1515 : BitVec 32 := 1#32
  let v1942 : BitVec 32 := Scalar.muli v62 c1_i32_1515
  let v1943 : BitVec 32 := Scalar.addi c0_i32_1516 v1942
  v1943.toNat
def k0_dev24 (d0 : Dev nD) : Nat :=
  let c0_i32_1525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1524 : BitVec 32 := 1#32
  let v1952 : BitVec 32 := Scalar.muli v92 c1_i32_1524
  let v1953 : BitVec 32 := Scalar.addi c0_i32_1525 v1952
  v1953.toNat
def k0_dev25 (d0 : Dev nD) : Nat :=
  let c0_i32_1650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1649 : BitVec 32 := 1#32
  let v2113 : BitVec 32 := Scalar.muli v62 c1_i32_1649
  let v2114 : BitVec 32 := Scalar.addi c0_i32_1650 v2113
  v2114.toNat
def k0_dev26 (d0 : Dev nD) : Nat :=
  let c0_i32_1659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1658 : BitVec 32 := 1#32
  let v2123 : BitVec 32 := Scalar.muli v92 c1_i32_1658
  let v2124 : BitVec 32 := Scalar.addi c0_i32_1659 v2123
  v2124.toNat
def k0_dev27 (d0 : Dev nD) : Nat :=
  let c0_i32_1784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1783 : BitVec 32 := 1#32
  let v2284 : BitVec 32 := Scalar.muli v62 c1_i32_1783
  let v2285 : BitVec 32 := Scalar.addi c0_i32_1784 v2284
  v2285.toNat
def k0_dev28 (d0 : Dev nD) : Nat :=
  let c0_i32_1793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1792 : BitVec 32 := 1#32
  let v2294 : BitVec 32 := Scalar.muli v92 c1_i32_1792
  let v2295 : BitVec 32 := Scalar.addi c0_i32_1793 v2294
  v2295.toNat
def k0_dev29 (d0 : Dev nD) : Nat :=
  let c0_i32_1918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_1917 : BitVec 32 := 1#32
  let v2455 : BitVec 32 := Scalar.muli v62 c1_i32_1917
  let v2456 : BitVec 32 := Scalar.addi c0_i32_1918 v2455
  v2456.toNat
def k0_dev30 (d0 : Dev nD) : Nat :=
  let c0_i32_1927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_1926 : BitVec 32 := 1#32
  let v2465 : BitVec 32 := Scalar.muli v92 c1_i32_1926
  let v2466 : BitVec 32 := Scalar.addi c0_i32_1927 v2465
  v2466.toNat
def k0_dev31 (d0 : Dev nD) : Nat :=
  let c0_i32_2052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2051 : BitVec 32 := 1#32
  let v2626 : BitVec 32 := Scalar.muli v62 c1_i32_2051
  let v2627 : BitVec 32 := Scalar.addi c0_i32_2052 v2626
  v2627.toNat
def k0_dev32 (d0 : Dev nD) : Nat :=
  let c0_i32_2061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2060 : BitVec 32 := 1#32
  let v2636 : BitVec 32 := Scalar.muli v92 c1_i32_2060
  let v2637 : BitVec 32 := Scalar.addi c0_i32_2061 v2636
  v2637.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_2113 : BitVec 32 := 1#32
  let v2694 : BitVec 32 := Scalar.addi v32 c1_i32_2113
  let c16_i32_2114 : BitVec 32 := 16#32
  let c0_i32_2115 : BitVec 32 := 0#32
  let v2695 : BitVec 1 := Scalar.cmpi .eq c16_i32_2114 c0_i32_2115
  let c1_i32_2116 : BitVec 32 := 1#32
  let v2696 : BitVec 32 := Scalar.select v2695 c1_i32_2116 c16_i32_2114
  let v2697 : BitVec 32 := Scalar.remsi v2694 v2696
  let c0_i32_2118 : BitVec 32 := 0#32
  let v2699 : BitVec 1 := Scalar.cmpi .slt v2697 c0_i32_2118
  let c0_i32_2119 : BitVec 32 := 0#32
  let v2700 : BitVec 1 := Scalar.cmpi .slt v2696 c0_i32_2119
  let v2701 : BitVec 1 := Scalar.xori v2699 v2700
  let c0_i32_2117 : BitVec 32 := 0#32
  let v2698 : BitVec 1 := Scalar.cmpi .ne v2697 c0_i32_2117
  let v2702 : BitVec 1 := Scalar.andi v2701 v2698
  let v2703 : BitVec 32 := Scalar.addi v2697 v2696
  let v2704 : BitVec 32 := Scalar.select v2702 v2703 v2697
  let c64_i32_2129 : BitVec 32 := 64#32
  let v2719 : BitVec 32 := Scalar.muli v2704 c64_i32_2129
  let v2720 : Index := Scalar.indexCast v2719
  let c0_2130 : Index := 0#32
  ![v2720.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_2120 : BitVec 32 := 1#32
  let v2705 : BitVec 32 := Scalar.subi v32 c1_i32_2120
  let c16_i32_2121 : BitVec 32 := 16#32
  let c0_i32_2122 : BitVec 32 := 0#32
  let v2706 : BitVec 1 := Scalar.cmpi .eq c16_i32_2121 c0_i32_2122
  let c1_i32_2123 : BitVec 32 := 1#32
  let v2707 : BitVec 32 := Scalar.select v2706 c1_i32_2123 c16_i32_2121
  let v2708 : BitVec 32 := Scalar.remsi v2705 v2707
  let c0_i32_2125 : BitVec 32 := 0#32
  let v2710 : BitVec 1 := Scalar.cmpi .slt v2708 c0_i32_2125
  let c0_i32_2126 : BitVec 32 := 0#32
  let v2711 : BitVec 1 := Scalar.cmpi .slt v2707 c0_i32_2126
  let v2712 : BitVec 1 := Scalar.xori v2710 v2711
  let c0_i32_2124 : BitVec 32 := 0#32
  let v2709 : BitVec 1 := Scalar.cmpi .ne v2708 c0_i32_2124
  let v2713 : BitVec 1 := Scalar.andi v2712 v2709
  let v2714 : BitVec 32 := Scalar.addi v2708 v2707
  let v2715 : BitVec 32 := Scalar.select v2713 v2714 v2708
  let c64_i32_2133 : BitVec 32 := 64#32
  let v2725 : BitVec 32 := Scalar.muli v2715 c64_i32_2133
  let c32_i32_2134 : BitVec 32 := 32#32
  let v2726 : BitVec 32 := Scalar.addi v2725 c32_i32_2134
  let v2727 : Index := Scalar.indexCast v2726
  let c0_2135 : Index := 0#32
  ![v2727.toNat, 0]
def k0_off16 (d0 : Dev nD) (c0_i32_2137 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_2136 : BitVec 32 := 1#32
  let v2729 : BitVec 32 := Scalar.addi v32 c1_i32_2136
  let v2730 : BitVec 32 := Scalar.subi v2729 c0_i32_2137
  let c16_i32_2138 : BitVec 32 := 16#32
  let c0_i32_2139 : BitVec 32 := 0#32
  let v2731 : BitVec 1 := Scalar.cmpi .eq c16_i32_2138 c0_i32_2139
  let c1_i32_2140 : BitVec 32 := 1#32
  let v2732 : BitVec 32 := Scalar.select v2731 c1_i32_2140 c16_i32_2138
  let v2733 : BitVec 32 := Scalar.remsi v2730 v2732
  let c0_i32_2142 : BitVec 32 := 0#32
  let v2735 : BitVec 1 := Scalar.cmpi .slt v2733 c0_i32_2142
  let c0_i32_2143 : BitVec 32 := 0#32
  let v2736 : BitVec 1 := Scalar.cmpi .slt v2732 c0_i32_2143
  let v2737 : BitVec 1 := Scalar.xori v2735 v2736
  let c0_i32_2141 : BitVec 32 := 0#32
  let v2734 : BitVec 1 := Scalar.cmpi .ne v2733 c0_i32_2141
  let v2738 : BitVec 1 := Scalar.andi v2737 v2734
  let v2739 : BitVec 32 := Scalar.addi v2733 v2732
  let v2740 : BitVec 32 := Scalar.select v2738 v2739 v2733
  let c64_i32_2153 : BitVec 32 := 64#32
  let v2754 : BitVec 32 := Scalar.muli v2740 c64_i32_2153
  let c0_i32_2162 : BitVec 32 := 0#32
  ![v2754.toNat, 0]
def k0_dev33 (d0 : Dev nD) : Nat :=
  let c0_i32_2161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2160 : BitVec 32 := 1#32
  let v2759 : BitVec 32 := Scalar.muli v62 c1_i32_2160
  let v2760 : BitVec 32 := Scalar.addi c0_i32_2161 v2759
  v2760.toNat
def k0_off17 (d0 : Dev nD) (c0_i32_2145 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c11_i32_13 : BitVec 32 := 11#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c3_i32_9 : BitVec 32 := 3#32
  let c11_i32 : BitVec 32 := 11#32
  let v23 : BitVec 1 := Scalar.cmpi .eq v2 c11_i32
  let c13_i32 : BitVec 32 := 13#32
  let c10_i32 : BitVec 32 := 10#32
  let v21 : BitVec 1 := Scalar.cmpi .eq v2 c10_i32
  let c10_i32_8 : BitVec 32 := 10#32
  let c9_i32_6 : BitVec 32 := 9#32
  let v19 : BitVec 1 := Scalar.cmpi .eq v2 c9_i32_6
  let c5_i32_7 : BitVec 32 := 5#32
  let c8_i32_4 : BitVec 32 := 8#32
  let v17 : BitVec 1 := Scalar.cmpi .eq v2 c8_i32_4
  let c2_i32_5 : BitVec 32 := 2#32
  let c7_i32_3 : BitVec 32 := 7#32
  let v15 : BitVec 1 := Scalar.cmpi .eq v2 c7_i32_3
  let c14_i32 : BitVec 32 := 14#32
  let c6_i32_2 : BitVec 32 := 6#32
  let v13 : BitVec 1 := Scalar.cmpi .eq v2 c6_i32_2
  let c9_i32 : BitVec 32 := 9#32
  let c5_i32 : BitVec 32 := 5#32
  let v11 : BitVec 1 := Scalar.cmpi .eq v2 c5_i32
  let c6_i32 : BitVec 32 := 6#32
  let c4_i32 : BitVec 32 := 4#32
  let v9 : BitVec 1 := Scalar.cmpi .eq v2 c4_i32
  let c1_i32_1 : BitVec 32 := 1#32
  let c3_i32 : BitVec 32 := 3#32
  let v7 : BitVec 1 := Scalar.cmpi .eq v2 c3_i32
  let c15_i32 : BitVec 32 := 15#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c7_i32 : BitVec 32 := 7#32
  let c0_i32 : BitVec 32 := 0#32
  let v4 : BitVec 32 := Scalar.select v3 c7_i32 c0_i32
  let v6 : BitVec 32 := Scalar.select v5 c8_i32 v4
  let v8 : BitVec 32 := Scalar.select v7 c15_i32 v6
  let v10 : BitVec 32 := Scalar.select v9 c1_i32_1 v8
  let v12 : BitVec 32 := Scalar.select v11 c6_i32 v10
  let v14 : BitVec 32 := Scalar.select v13 c9_i32 v12
  let v16 : BitVec 32 := Scalar.select v15 c14_i32 v14
  let v18 : BitVec 32 := Scalar.select v17 c2_i32_5 v16
  let v20 : BitVec 32 := Scalar.select v19 c5_i32_7 v18
  let v22 : BitVec 32 := Scalar.select v21 c10_i32_8 v20
  let v24 : BitVec 32 := Scalar.select v23 c13_i32 v22
  let v26 : BitVec 32 := Scalar.select v25 c3_i32_9 v24
  let v28 : BitVec 32 := Scalar.select v27 c4_i32_11 v26
  let v30 : BitVec 32 := Scalar.select v29 c11_i32_13 v28
  let v32 : BitVec 32 := Scalar.select v31 c12_i32_15 v30
  let c1_i32_2144 : BitVec 32 := 1#32
  let v2741 : BitVec 32 := Scalar.subi v32 c1_i32_2144
  let v2742 : BitVec 32 := Scalar.addi v2741 c0_i32_2145
  let c16_i32_2146 : BitVec 32 := 16#32
  let c0_i32_2147 : BitVec 32 := 0#32
  let v2743 : BitVec 1 := Scalar.cmpi .eq c16_i32_2146 c0_i32_2147
  let c1_i32_2148 : BitVec 32 := 1#32
  let v2744 : BitVec 32 := Scalar.select v2743 c1_i32_2148 c16_i32_2146
  let v2745 : BitVec 32 := Scalar.remsi v2742 v2744
  let c0_i32_2150 : BitVec 32 := 0#32
  let v2747 : BitVec 1 := Scalar.cmpi .slt v2745 c0_i32_2150
  let c0_i32_2151 : BitVec 32 := 0#32
  let v2748 : BitVec 1 := Scalar.cmpi .slt v2744 c0_i32_2151
  let v2749 : BitVec 1 := Scalar.xori v2747 v2748
  let c0_i32_2149 : BitVec 32 := 0#32
  let v2746 : BitVec 1 := Scalar.cmpi .ne v2745 c0_i32_2149
  let v2750 : BitVec 1 := Scalar.andi v2749 v2746
  let v2751 : BitVec 32 := Scalar.addi v2745 v2744
  let v2752 : BitVec 32 := Scalar.select v2750 v2751 v2745
  let c64_i32_2156 : BitVec 32 := 64#32
  let v2757 : BitVec 32 := Scalar.muli v2752 c64_i32_2156
  let c32_i32_2157 : BitVec 32 := 32#32
  let v2758 : BitVec 32 := Scalar.addi v2757 c32_i32_2157
  let c0_i32_2168 : BitVec 32 := 0#32
  ![v2758.toNat, 0]
def k0_dev34 (d0 : Dev nD) : Nat :=
  let c0_i32_2167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2166 : BitVec 32 := 1#32
  let v2767 : BitVec 32 := Scalar.muli v92 c1_i32_2166
  let v2768 : BitVec 32 := Scalar.addi c0_i32_2167 v2767
  v2768.toNat
def k0_dev35 (d0 : Dev nD) : Nat :=
  let c0_i32_2217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2216 : BitVec 32 := 1#32
  let v2825 : BitVec 32 := Scalar.muli v62 c1_i32_2216
  let v2826 : BitVec 32 := Scalar.addi c0_i32_2217 v2825
  v2826.toNat
def k0_dev36 (d0 : Dev nD) : Nat :=
  let c0_i32_2223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2222 : BitVec 32 := 1#32
  let v2833 : BitVec 32 := Scalar.muli v92 c1_i32_2222
  let v2834 : BitVec 32 := Scalar.addi c0_i32_2223 v2833
  v2834.toNat
def k0_dev37 (d0 : Dev nD) : Nat :=
  let c0_i32_2273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2272 : BitVec 32 := 1#32
  let v2891 : BitVec 32 := Scalar.muli v62 c1_i32_2272
  let v2892 : BitVec 32 := Scalar.addi c0_i32_2273 v2891
  v2892.toNat
def k0_dev38 (d0 : Dev nD) : Nat :=
  let c0_i32_2279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2278 : BitVec 32 := 1#32
  let v2899 : BitVec 32 := Scalar.muli v92 c1_i32_2278
  let v2900 : BitVec 32 := Scalar.addi c0_i32_2279 v2899
  v2900.toNat
def k0_dev39 (d0 : Dev nD) : Nat :=
  let c0_i32_2329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2328 : BitVec 32 := 1#32
  let v2957 : BitVec 32 := Scalar.muli v62 c1_i32_2328
  let v2958 : BitVec 32 := Scalar.addi c0_i32_2329 v2957
  v2958.toNat
def k0_dev40 (d0 : Dev nD) : Nat :=
  let c0_i32_2335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2334 : BitVec 32 := 1#32
  let v2965 : BitVec 32 := Scalar.muli v92 c1_i32_2334
  let v2966 : BitVec 32 := Scalar.addi c0_i32_2335 v2965
  v2966.toNat
def k0_dev41 (d0 : Dev nD) : Nat :=
  let c0_i32_2385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2384 : BitVec 32 := 1#32
  let v3023 : BitVec 32 := Scalar.muli v62 c1_i32_2384
  let v3024 : BitVec 32 := Scalar.addi c0_i32_2385 v3023
  v3024.toNat
def k0_dev42 (d0 : Dev nD) : Nat :=
  let c0_i32_2391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2390 : BitVec 32 := 1#32
  let v3031 : BitVec 32 := Scalar.muli v92 c1_i32_2390
  let v3032 : BitVec 32 := Scalar.addi c0_i32_2391 v3031
  v3032.toNat
def k0_dev43 (d0 : Dev nD) : Nat :=
  let c0_i32_2441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2440 : BitVec 32 := 1#32
  let v3089 : BitVec 32 := Scalar.muli v62 c1_i32_2440
  let v3090 : BitVec 32 := Scalar.addi c0_i32_2441 v3089
  v3090.toNat
def k0_dev44 (d0 : Dev nD) : Nat :=
  let c0_i32_2447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2446 : BitVec 32 := 1#32
  let v3097 : BitVec 32 := Scalar.muli v92 c1_i32_2446
  let v3098 : BitVec 32 := Scalar.addi c0_i32_2447 v3097
  v3098.toNat
def k0_dev45 (d0 : Dev nD) : Nat :=
  let c0_i32_2497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2496 : BitVec 32 := 1#32
  let v3155 : BitVec 32 := Scalar.muli v62 c1_i32_2496
  let v3156 : BitVec 32 := Scalar.addi c0_i32_2497 v3155
  v3156.toNat
def k0_dev46 (d0 : Dev nD) : Nat :=
  let c0_i32_2503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2502 : BitVec 32 := 1#32
  let v3163 : BitVec 32 := Scalar.muli v92 c1_i32_2502
  let v3164 : BitVec 32 := Scalar.addi c0_i32_2503 v3163
  v3164.toNat
def k0_dev47 (d0 : Dev nD) : Nat :=
  let c0_i32_2553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2552 : BitVec 32 := 1#32
  let v3221 : BitVec 32 := Scalar.muli v62 c1_i32_2552
  let v3222 : BitVec 32 := Scalar.addi c0_i32_2553 v3221
  v3222.toNat
def k0_dev48 (d0 : Dev nD) : Nat :=
  let c0_i32_2559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2558 : BitVec 32 := 1#32
  let v3229 : BitVec 32 := Scalar.muli v92 c1_i32_2558
  let v3230 : BitVec 32 := Scalar.addi c0_i32_2559 v3229
  v3230.toNat
def k0_dev49 (d0 : Dev nD) : Nat :=
  let c0_i32_2609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2608 : BitVec 32 := 1#32
  let v3287 : BitVec 32 := Scalar.muli v62 c1_i32_2608
  let v3288 : BitVec 32 := Scalar.addi c0_i32_2609 v3287
  v3288.toNat
def k0_dev50 (d0 : Dev nD) : Nat :=
  let c0_i32_2615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2614 : BitVec 32 := 1#32
  let v3295 : BitVec 32 := Scalar.muli v92 c1_i32_2614
  let v3296 : BitVec 32 := Scalar.addi c0_i32_2615 v3295
  v3296.toNat
def k0_dev51 (d0 : Dev nD) : Nat :=
  let c0_i32_2665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2664 : BitVec 32 := 1#32
  let v3353 : BitVec 32 := Scalar.muli v62 c1_i32_2664
  let v3354 : BitVec 32 := Scalar.addi c0_i32_2665 v3353
  v3354.toNat
def k0_dev52 (d0 : Dev nD) : Nat :=
  let c0_i32_2671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2670 : BitVec 32 := 1#32
  let v3361 : BitVec 32 := Scalar.muli v92 c1_i32_2670
  let v3362 : BitVec 32 := Scalar.addi c0_i32_2671 v3361
  v3362.toNat
def k0_dev53 (d0 : Dev nD) : Nat :=
  let c0_i32_2721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2720 : BitVec 32 := 1#32
  let v3419 : BitVec 32 := Scalar.muli v62 c1_i32_2720
  let v3420 : BitVec 32 := Scalar.addi c0_i32_2721 v3419
  v3420.toNat
def k0_dev54 (d0 : Dev nD) : Nat :=
  let c0_i32_2727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2726 : BitVec 32 := 1#32
  let v3427 : BitVec 32 := Scalar.muli v92 c1_i32_2726
  let v3428 : BitVec 32 := Scalar.addi c0_i32_2727 v3427
  v3428.toNat
def k0_dev55 (d0 : Dev nD) : Nat :=
  let c0_i32_2777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2776 : BitVec 32 := 1#32
  let v3485 : BitVec 32 := Scalar.muli v62 c1_i32_2776
  let v3486 : BitVec 32 := Scalar.addi c0_i32_2777 v3485
  v3486.toNat
def k0_dev56 (d0 : Dev nD) : Nat :=
  let c0_i32_2783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2782 : BitVec 32 := 1#32
  let v3493 : BitVec 32 := Scalar.muli v92 c1_i32_2782
  let v3494 : BitVec 32 := Scalar.addi c0_i32_2783 v3493
  v3494.toNat
def k0_dev57 (d0 : Dev nD) : Nat :=
  let c0_i32_2833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2832 : BitVec 32 := 1#32
  let v3551 : BitVec 32 := Scalar.muli v62 c1_i32_2832
  let v3552 : BitVec 32 := Scalar.addi c0_i32_2833 v3551
  v3552.toNat
def k0_dev58 (d0 : Dev nD) : Nat :=
  let c0_i32_2839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2838 : BitVec 32 := 1#32
  let v3559 : BitVec 32 := Scalar.muli v92 c1_i32_2838
  let v3560 : BitVec 32 := Scalar.addi c0_i32_2839 v3559
  v3560.toNat
def k0_dev59 (d0 : Dev nD) : Nat :=
  let c0_i32_2889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2888 : BitVec 32 := 1#32
  let v3617 : BitVec 32 := Scalar.muli v62 c1_i32_2888
  let v3618 : BitVec 32 := Scalar.addi c0_i32_2889 v3617
  v3618.toNat
def k0_dev60 (d0 : Dev nD) : Nat :=
  let c0_i32_2895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2894 : BitVec 32 := 1#32
  let v3625 : BitVec 32 := Scalar.muli v92 c1_i32_2894
  let v3626 : BitVec 32 := Scalar.addi c0_i32_2895 v3625
  v3626.toNat
def k0_dev61 (d0 : Dev nD) : Nat :=
  let c0_i32_2945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c11_i32_46 : BitVec 32 := 11#32
  let c14_i32_43 : BitVec 32 := 14#32
  let v59 : BitVec 1 := Scalar.cmpi .eq v2 c14_i32_43
  let c15_i32_44 : BitVec 32 := 15#32
  let c13_i32_41 : BitVec 32 := 13#32
  let v57 : BitVec 1 := Scalar.cmpi .eq v2 c13_i32_41
  let c9_i32_42 : BitVec 32 := 9#32
  let c12_i32_39 : BitVec 32 := 12#32
  let v55 : BitVec 1 := Scalar.cmpi .eq v2 c12_i32_39
  let c13_i32_40 : BitVec 32 := 13#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c14_i32_36 : BitVec 32 := 14#32
  let c9_i32_33 : BitVec 32 := 9#32
  let v49 : BitVec 1 := Scalar.cmpi .eq v2 c9_i32_33
  let c5_i32_34 : BitVec 32 := 5#32
  let c8_i32_31 : BitVec 32 := 8#32
  let v47 : BitVec 1 := Scalar.cmpi .eq v2 c8_i32_31
  let c12_i32_32 : BitVec 32 := 12#32
  let c7_i32_29 : BitVec 32 := 7#32
  let v45 : BitVec 1 := Scalar.cmpi .eq v2 c7_i32_29
  let c3_i32_30 : BitVec 32 := 3#32
  let c6_i32_27 : BitVec 32 := 6#32
  let v43 : BitVec 1 := Scalar.cmpi .eq v2 c6_i32_27
  let c10_i32_28 : BitVec 32 := 10#32
  let c5_i32_25 : BitVec 32 := 5#32
  let v41 : BitVec 1 := Scalar.cmpi .eq v2 c5_i32_25
  let c1_i32_26 : BitVec 32 := 1#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c6_i32_20 : BitVec 32 := 6#32
  let c1_i32_16 : BitVec 32 := 1#32
  let v33 : BitVec 1 := Scalar.cmpi .eq v2 c1_i32_16
  let c2_i32_17 : BitVec 32 := 2#32
  let c4_i32_18 : BitVec 32 := 4#32
  let v34 : BitVec 32 := Scalar.select v33 c2_i32_17 c4_i32_18
  let v36 : BitVec 32 := Scalar.select v35 c6_i32_20 v34
  let v38 : BitVec 32 := Scalar.select v37 c0_i32_22 v36
  let v40 : BitVec 32 := Scalar.select v39 c8_i32_24 v38
  let v42 : BitVec 32 := Scalar.select v41 c1_i32_26 v40
  let v44 : BitVec 32 := Scalar.select v43 c10_i32_28 v42
  let v46 : BitVec 32 := Scalar.select v45 c3_i32_30 v44
  let v48 : BitVec 32 := Scalar.select v47 c12_i32_32 v46
  let v50 : BitVec 32 := Scalar.select v49 c5_i32_34 v48
  let v52 : BitVec 32 := Scalar.select v51 c14_i32_36 v50
  let v54 : BitVec 32 := Scalar.select v53 c7_i32_38 v52
  let v56 : BitVec 32 := Scalar.select v55 c13_i32_40 v54
  let v58 : BitVec 32 := Scalar.select v57 c9_i32_42 v56
  let v60 : BitVec 32 := Scalar.select v59 c15_i32_44 v58
  let v62 : BitVec 32 := Scalar.select v61 c11_i32_46 v60
  let c1_i32_2944 : BitVec 32 := 1#32
  let v3683 : BitVec 32 := Scalar.muli v62 c1_i32_2944
  let v3684 : BitVec 32 := Scalar.addi c0_i32_2945 v3683
  v3684.toNat
def k0_dev62 (d0 : Dev nD) : Nat :=
  let c0_i32_2951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c14_i32_77 : BitVec 32 := 14#32
  let c14_i32_74 : BitVec 32 := 14#32
  let v89 : BitVec 1 := Scalar.cmpi .eq v2 c14_i32_74
  let c10_i32_75 : BitVec 32 := 10#32
  let c13_i32_72 : BitVec 32 := 13#32
  let v87 : BitVec 1 := Scalar.cmpi .eq v2 c13_i32_72
  let c12_i32_73 : BitVec 32 := 12#32
  let c12_i32_70 : BitVec 32 := 12#32
  let v85 : BitVec 1 := Scalar.cmpi .eq v2 c12_i32_70
  let c8_i32_71 : BitVec 32 := 8#32
  let c11_i32_68 : BitVec 32 := 11#32
  let v83 : BitVec 1 := Scalar.cmpi .eq v2 c11_i32_68
  let c15_i32_69 : BitVec 32 := 15#32
  let c10_i32_66 : BitVec 32 := 10#32
  let v81 : BitVec 1 := Scalar.cmpi .eq v2 c10_i32_66
  let c6_i32_67 : BitVec 32 := 6#32
  let c9_i32_64 : BitVec 32 := 9#32
  let v79 : BitVec 1 := Scalar.cmpi .eq v2 c9_i32_64
  let c13_i32_65 : BitVec 32 := 13#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c2_i32_59 : BitVec 32 := 2#32
  let c5_i32_56 : BitVec 32 := 5#32
  let v71 : BitVec 1 := Scalar.cmpi .eq v2 c5_i32_56
  let c9_i32_57 : BitVec 32 := 9#32
  let c4_i32_54 : BitVec 32 := 4#32
  let v69 : BitVec 1 := Scalar.cmpi .eq v2 c4_i32_54
  let c0_i32_55 : BitVec 32 := 0#32
  let c3_i32_52 : BitVec 32 := 3#32
  let v67 : BitVec 1 := Scalar.cmpi .eq v2 c3_i32_52
  let c7_i32_53 : BitVec 32 := 7#32
  let c2_i32_50 : BitVec 32 := 2#32
  let v65 : BitVec 1 := Scalar.cmpi .eq v2 c2_i32_50
  let c1_i32_51 : BitVec 32 := 1#32
  let c1_i32_47 : BitVec 32 := 1#32
  let v63 : BitVec 1 := Scalar.cmpi .eq v2 c1_i32_47
  let c5_i32_48 : BitVec 32 := 5#32
  let c3_i32_49 : BitVec 32 := 3#32
  let v64 : BitVec 32 := Scalar.select v63 c5_i32_48 c3_i32_49
  let v66 : BitVec 32 := Scalar.select v65 c1_i32_51 v64
  let v68 : BitVec 32 := Scalar.select v67 c7_i32_53 v66
  let v70 : BitVec 32 := Scalar.select v69 c0_i32_55 v68
  let v72 : BitVec 32 := Scalar.select v71 c9_i32_57 v70
  let v74 : BitVec 32 := Scalar.select v73 c2_i32_59 v72
  let v76 : BitVec 32 := Scalar.select v75 c11_i32_61 v74
  let v78 : BitVec 32 := Scalar.select v77 c4_i32_63 v76
  let v80 : BitVec 32 := Scalar.select v79 c13_i32_65 v78
  let v82 : BitVec 32 := Scalar.select v81 c6_i32_67 v80
  let v84 : BitVec 32 := Scalar.select v83 c15_i32_69 v82
  let v86 : BitVec 32 := Scalar.select v85 c8_i32_71 v84
  let v88 : BitVec 32 := Scalar.select v87 c12_i32_73 v86
  let v90 : BitVec 32 := Scalar.select v89 c10_i32_75 v88
  let v92 : BitVec 32 := Scalar.select v91 c14_i32_77 v90
  let c1_i32_2950 : BitVec 32 := 1#32
  let v3691 : BitVec 32 := Scalar.muli v92 c1_i32_2950
  let v3692 : BitVec 32 := Scalar.addi c0_i32_2951 v3691
  v3692.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S1024x32768 : Shape := ⟨2, ![1024, 32768]⟩
abbrev S32768x1024 : Shape := ⟨2, ![32768, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x32768, .f32⟩
  | .hbm, ⟨2, _⟩ => ⟨S32768x1024, .f32⟩
  | .hbm, ⟨3, _⟩ => ⟨S1024x32768, .f32⟩
  | .hbm, ⟨4, _⟩ => ⟨S_, .f32⟩
  | .hbm, ⟨5, _⟩ => ⟨S1024x32768, .f32⟩
  | .hbm, ⟨6, _⟩ => ⟨S1024x32768, .f32⟩
  | .hbm, ⟨7, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Float.BodySteps.lean ====
/-
# The printed body is the sequence of its steps
-/
module

public import proofs.«01_k».proof.Proof.Float.Steps

@[expose] public section

noncomputable section

namespace Cert.KernelProof

open Cert.Kernel Cert.Kernel.Gen
open Idealize.ShloMosaic Idealize.ShloMosaic.TcCoe
open Idealize.SL Idealize.SL.Sem

variable {F : FTy → Type} [FloatOps F]

abbrev bodyPrinted : P (F := F) PUnit :=
  cc0_body xM (Memref.isWhole_whole _) w1M (Memref.isWhole_whole _) w2M (Memref.isWhole_whole _) oM (Memref.isWhole_whole _)
    ptM (Memref.isWhole_whole _) pbM (Memref.isWhole_whole _) ctM (Memref.isWhole_whole _) cbM (Memref.isWhole_whole _)
    cc0_scratch4 cc0_scratch5 cc0_scratch6 cc0_scratch7 cc0_scratch8 cc0_scratch9 cc0_scratch10 cc0_scratch11

set_option maxRecDepth 65536 in
set_option maxHeartbeats 0 in
theorem body_eq_steps : bodyPrinted (F := F) = bodySteps := by
  rw [bodyPrinted, cc0_body_eq_skeleton]
  with_unfolding_all rfl

end Cert.KernelProof

end
-- ==== Proof.Steps.lean ====
/-
# The kernel's body as a sequence of ring steps

The printed body is one straight line of memory operations. Here it is written down again as the steps the kernel's
author had in mind — the handshake, the tile products, fifteen reduce steps, the hand-over, fifteen gather steps —
each step a program over the step's number. That the printed body is their composition is `BodySteps.lean`.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.ShloMosaic.TcCoe
open Idealize.SL Idealize.SL.Sem

variable {F : FTy → Type} [FloatOps F]

/-! ## The buffers and semaphores the body is called with -/

abbrev xM : Memref sig .tc .vmem S1024x1024 .f32 := Memref.whole cc0_stg0_0
abbrev w1M : Memref sig .tc .vmem S1024x2048 .f32 := Memref.whole cc0_stg1_0
abbrev w2M : Memref sig .tc .vmem S2048x1024 .f32 := Memref.whole cc0_stg2_0
abbrev oM : Memref sig .tc .vmem S1024x1024 .f32 := Memref.whole cc0_stg3_0
/-- The partial sums, top halves and bottom halves, a slot per row chunk. -/
abbrev ptM : Memref sig .tc .vmem S16x32x1024 .f32 := Memref.whole cc0_scratch0
abbrev pbM : Memref sig .tc .vmem S16x32x1024 .f32 := Memref.whole cc0_scratch1
/-- The landing buffers, a slot per reduce step. -/
abbrev ctM : Memref sig .tc .vmem S15x32x1024 .f32 := Memref.whole cc0_scratch2
abbrev cbM : Memref sig .tc .vmem S15x32x1024 .f32 := Memref.whole cc0_scratch3

abbrev barS : Sem sig := (SemArray.scalar (sig.barrier 0 rfl) : Sems sig S_).sem

/-- Step `s`'s semaphore of an array of fifteen. -/
theorem inb15 (s : Fin 15) : ∀ a, (![s.val] : Fin 1 → ℕ) a + S1.size a ≤ S15.size a := by
  revert s; decide +kernel
abbrev semAt (a : DmaSems sig S15) (s : Fin 15) : DmaSem sig :=
  ((a.slice (Rect.unit (s := S15) ![s.val] S1.size (inb15 s))).squeeze S_ squeezes_S1_S_ : DmaSems sig S_).sem

theorem inbC (s : Fin 15) : ∀ a, (![s.val, 0, 0] : Fin 3 → ℕ) a + S1x32x1024.size a ≤ S15x32x1024.size a := by
  revert s; decide +kernel

/-- A slot of a partial-sum buffer, and of a landing buffer, as a copy's end. -/
abbrev slotP (b : Memref sig .tc .vmem S16x32x1024 .f32) (o : Fin 3 → ℕ) (h : ∀ a, o a + S1x32x1024.size a ≤ S16x32x1024.size a) :
    Memref sig .tc .vmem S32x1024 .f32 :=
  (b.slice (Rect.unit (s := S16x32x1024) o S1x32x1024.size h) (fun _ => rfl)).squeeze S32x1024 squeezes_S1x32x1024_S32x1024
abbrev slotC (b : Memref sig .tc .vmem S15x32x1024 .f32) (s : Fin 15) : Memref sig .tc .vmem S32x1024 .f32 :=
  (b.slice (Rect.unit (s := S15x32x1024) ![s.val, 0, 0] S1x32x1024.size (inbC s)) (fun _ => rfl)).squeeze S32x1024 squeezes_S1x32x1024_S32x1024
/-- Thirty-two rows of the result. -/
abbrev rowsO (o : Fin 2 → ℕ) (h : ∀ a, o a + S32x1024.size a ≤ S1024x1024.size a) : Memref sig .tc .vmem S32x1024 .f32 :=
  oM.slice (Rect.unit (s := S1024x1024) o S32x1024.size h) (fun _ => rfl)

/-! ## The pieces of a step -/

abbrev P (α : Type) := Prog (TpuEff nD τ sig (Elt F) Λ₀ .tc) α

/-- Thirty-two rows of `x` through both layers, into a slot of partial sums. -/
def comp (b : Memref sig .tc .vmem S16x32x1024 .f32) (r : Fin 2 → ℕ) (hr : ∀ a, r a + S32x1024.size a ≤ S1024x1024.size a)
    (o : Fin 3 → ℕ) (ho : ∀ a, o a + S1x32x1024.size a ≤ S16x32x1024.size a) : P (F := F) PUnit := do
  let x : Vec F S32x1024 .f32 ← Prog.lift (.load xM (Rect.unit (s := S1024x1024) r S32x1024.size hr).toLoadRect (View.loadsAt_vmem h_S32x1024))
  let w : Vec F S1024x2048 .f32 ← Prog.lift (.load w1M (Rect.unit (s := S1024x2048) ![0, 0] S1024x2048.size inb_S1024x2048_S1024x2048_0_0).toLoadRect (View.loadsAt_vmem h_S1024x2048))
  let v : Vec F S2048x1024 .f32 ← Prog.lift (.load w2M (Rect.unit (s := S2048x1024) ![0, 0] S2048x1024.size inb_S2048x1024_S2048x1024_0_0).toLoadRect (View.loadsAt_vmem h_S2048x1024))
  let _ : Vec F S1x32x1024 .f32 ← Prog.lift (.load b (Rect.unit (s := S16x32x1024) o S1x32x1024.size ho).toLoadRect (View.loadsAt_vmem h_S1x32x1024))
  Prog.lift (.store b (Rect.unit (s := S16x32x1024) o S1x32x1024.size ho) (k0_pay1 x w v) Finset.univ (View.stores_vmem_bits_univ h_S1x32x1024 rfl) (.inl rfl))

/-- A landed slot added to a slot of partial sums. -/
def addIn (b : Memref sig .tc .vmem S16x32x1024 .f32) (o : Fin 3 → ℕ) (ho : ∀ a, o a + S1x32x1024.size a ≤ S16x32x1024.size a)
    (l : Memref sig .tc .vmem S15x32x1024 .f32) (s : Fin 15) : P (F := F) PUnit := do
  let p : Vec F S1x32x1024 .f32 ← Prog.lift (.load b (Rect.unit (s := S16x32x1024) o S1x32x1024.size ho).toLoadRect (View.loadsAt_vmem h_S1x32x1024))
  let q : Vec F S1x32x1024 .f32 ← Prog.lift (.load l (Rect.unit (s := S15x32x1024) ![s.val, 0, 0] S1x32x1024.size (inbC s)).toLoadRect (View.loadsAt_vmem h_S1x32x1024))
  let _ : Vec F S1x32x1024 .f32 ← Prog.lift (.load b (Rect.unit (s := S16x32x1024) o S1x32x1024.size ho).toLoadRect (View.loadsAt_vmem h_S1x32x1024))
  Prog.lift (.store b (Rect.unit (s := S16x32x1024) o S1x32x1024.size ho) (k0_pay9 p q) Finset.univ (View.stores_vmem_bits_univ h_S1x32x1024 rfl) (.inl rfl))

/-- A slot of partial sums sent into landing slot `s` of device `n`. -/
def sendP (b : Memref sig .tc .vmem S16x32x1024 .f32) (o : Fin 3 → ℕ) (ho : ∀ a, o a + S1x32x1024.size a ≤ S16x32x1024.size a)
    (l : Memref sig .tc .vmem S15x32x1024 .f32) (s : Fin 15) (n : Dev nD) (ss rs : DmaSem sig) : P (F := F) PUnit :=
  Prog.lift (.enqueueDma (slotP b o ho) (.remote (Dev.tc n) (slotC l s) (.dma ss)) (.dma rs)
    ((View.wordExact_bits rfl).reshape _ _) ((View.wordExact_bits rfl).reshape _ _) ⟨⟨rfl, Or.inl rfl⟩, trivial⟩)

/-- The two waits of that copy: the slot is free again, and this device's own landing slot is filled. -/
def waitP (b : Memref sig .tc .vmem S16x32x1024 .f32) (o : Fin 3 → ℕ) (ho : ∀ a, o a + S1x32x1024.size a ≤ S16x32x1024.size a)
    (l : Memref sig .tc .vmem S15x32x1024 .f32) (s : Fin 15) (ss rs : DmaSem sig) : P (F := F) PUnit := do
  Prog.lift (.waitDma2 ss (slotC l s) (slotP b o ho) ((View.wordExact_bits rfl).reshape _ _) ((View.wordExact_bits rfl).reshape _ _))
  Prog.lift (.waitDma2 rs (slotP b o ho) (slotC l s) ((View.wordExact_bits rfl).reshape _ _) ((View.wordExact_bits rfl).reshape _ _))

/-- Rows of the result sent into the same rows of device `n`'s. -/
def sendO (o : Fin 2 → ℕ) (ho : ∀ a, o a + S32x1024.size a ≤ S1024x1024.size a) (n : Dev nD) (ss rs : DmaSem sig) : P (F := F) PUnit :=
  Prog.lift (.enqueueDma (rowsO o ho) (.remote (Dev.tc n) (rowsO o ho) (.dma ss)) (.dma rs)
    (View.wordExact_bits rfl) (View.wordExact_bits rfl) ⟨⟨rfl, Or.inl rfl⟩, trivial⟩)

def waitO (o : Fin 2 → ℕ) (ho : ∀ a, o a + S32x1024.size a ≤ S1024x1024.size a) (ss rs : DmaSem sig) : P (F := F) PUnit := do
  Prog.lift (.waitDma2 ss (rowsO o ho) (rowsO o ho) (View.wordExact_bits rfl) (View.wordExact_bits rfl))
  Prog.lift (.waitDma2 rs (rowsO o ho) (rowsO o ho) (View.wordExact_bits rfl) (View.wordExact_bits rfl))

/-- A finished slot copied to its rows of the result. -/
def putO (b : Memref sig .tc .vmem S16x32x1024 .f32) (o : Fin 3 → ℕ) (ho : ∀ a, o a + S1x32x1024.size a ≤ S16x32x1024.size a)
    (r : Fin 2 → ℕ) (hr : ∀ a, r a + S32x1024.size a ≤ S1024x1024.size a) : P (F := F) PUnit := do
  let p : Vec F S1x32x1024 .f32 ← Prog.lift (.load b (Rect.unit (s := S16x32x1024) o S1x32x1024.size ho).toLoadRect (View.loadsAt_vmem h_S1x32x1024))
  let _ : Vec F S32x1024 .f32 ← Prog.lift (.load oM (Rect.unit (s := S1024x1024) r S32x1024.size hr).toLoadRect (View.loadsAt_vmem h_S32x1024))
  Prog.lift (.store oM (Rect.unit (s := S1024x1024) r S32x1024.size hr) (k0_pay83 p) Finset.univ (View.stores_vmem_bits_univ h_S32x1024 rfl) (.inl rfl))

/-! ## The steps -/

abbrev bv (s : Fin 15) : BitVec 32 := BitVec.ofNat 32 s.val

theorem off10_inb : ∀ (c : Dev nD) (s : Fin 15), ∀ a, k0_off10 c (bv s) a + S32x1024.size a ≤ S1024x1024.size a := by decide +kernel
theorem off11_inb1 : ∀ (c : Dev nD) (s : Fin 15), ∀ a, k0_off11 c (bv s) 1#32 a + S1x32x1024.size a ≤ S16x32x1024.size a := by decide +kernel
theorem off11_inb2 : ∀ (c : Dev nD) (s : Fin 15), ∀ a, k0_off11 c (bv s) 2#32 a + S1x32x1024.size a ≤ S16x32x1024.size a := by decide +kernel
theorem off12_inb : ∀ (c : Dev nD) (s : Fin 15), ∀ a, k0_off12 c (bv s) a + S32x1024.size a ≤ S1024x1024.size a := by decide +kernel
theorem off13_inb1 : ∀ (c : Dev nD) (s : Fin 15), ∀ a, k0_off13 c (bv s) 1#32 a + S1x32x1024.size a ≤ S16x32x1024.size a := by decide +kernel
theorem off13_inb2 : ∀ (c : Dev nD) (s : Fin 15), ∀ a, k0_off13 c (bv s) 2#32 a + S1x32x1024.size a ≤ S16x32x1024.size a := by decide +kernel

/-- The neighbours as the kernel computes them. -/
abbrev devL (c : Dev nD) : Dev nD := ⟨k0_dev1 c, k0_dev1_lt c⟩
abbrev devR (c : Dev nD) : Dev nD := ⟨k0_dev2 c, k0_dev2_lt c⟩

/-- The handshake with both neighbours. -/
def handshake (c : Dev nD) : P (F := F) PUnit := do
  semSignalWord (devL c) barS 1#32
  semSignalWord (devR c) barS 1#32
  semWaitWord barS 2#32

/-- The first two chunks' products, each way. -/
def firstTiles (c : Dev nD) : P (F := F) PUnit := do
  comp ptM (k0_off1 c) (k0_off1_inb c) (k0_off2 c) (k0_off2_inb c)
  comp pbM (k0_off3 c) (k0_off3_inb c) (k0_off2 c) (k0_off2_inb c)
  comp ptM (k0_off4 c) (k0_off4_inb c) (k0_off5 c) (k0_off5_inb c)
  comp pbM (k0_off6 c) (k0_off6_inb c) (k0_off7 c) (k0_off7_inb c)

def rsSend (c : Dev nD) (s : Fin 15) : P (F := F) PUnit := do
  sendP ptM (k0_off8 c (bv s)) (k0_off8_inb c s) ctM s (devR c) (semAt cc0_scratch4 s) (semAt cc0_scratch5 s)
  sendP pbM (k0_off9 c (bv s)) (k0_off9_inb c s) cbM s (devL c) (semAt cc0_scratch6 s) (semAt cc0_scratch7 s)

def rsComp (c : Dev nD) (s : Fin 15) : P (F := F) PUnit := do
  comp ptM (k0_off10 c (bv s)) (off10_inb c s) (k0_off11 c (bv s) 2#32) (off11_inb2 c s)
  comp pbM (k0_off12 c (bv s)) (off12_inb c s) (k0_off13 c (bv s) 2#32) (off13_inb2 c s)

def rsRecv (c : Dev nD) (s : Fin 15) : P (F := F) PUnit := do
  waitP ptM (k0_off8 c (bv s)) (k0_off8_inb c s) ctM s (semAt cc0_scratch4 s) (semAt cc0_scratch5 s)
  waitP pbM (k0_off9 c (bv s)) (k0_off9_inb c s) cbM s (semAt cc0_scratch6 s) (semAt cc0_scratch7 s)
  addIn ptM (k0_off11 c (bv s) 1#32) (off11_inb1 c s) ctM s
  addIn pbM (k0_off13 c (bv s) 1#32) (off13_inb1 c s) cbM s

/-- One reduce step; the last computes no further product. -/
def rsStep (c : Dev nD) (s : Fin 15) : P (F := F) PUnit := do
  rsSend c s
  rsComp c s
  rsRecv c s

def handOver (c : Dev nD) : P (F := F) PUnit := do
  putO ptM (k0_off7 c) (k0_off7_inb c) (k0_off14 c) (k0_off14_inb c)
  putO pbM (k0_off5 c) (k0_off5_inb c) (k0_off15 c) (k0_off15_inb c)

def agStep (c : Dev nD) (t : Fin 15) : P (F := F) PUnit := do
  sendO (k0_off16 c (bv t)) (k0_off16_inb c t) (devR c) (semAt cc0_scratch8 t) (semAt cc0_scratch9 t)
  sendO (k0_off17 c (bv t)) (k0_off17_inb c t) (devL c) (semAt cc0_scratch10 t) (semAt cc0_scratch11 t)
  waitO (k0_off16 c (bv t)) (k0_off16_inb c t) (semAt cc0_scratch8 t) (semAt cc0_scratch9 t)
  waitO (k0_off17 c (bv t)) (k0_off17_inb c t) (semAt cc0_scratch10 t) (semAt cc0_scratch11 t)

/-- A list of steps in order. -/
def steps (f : Fin 15 → P (F := F) PUnit) : List (Fin 15) → P (F := F) PUnit
  | [] => pure ⟨⟩
  | s :: l => do f s; steps f l

/-- The body as the sequence of its steps. -/
def bodySteps : P (F := F) PUnit := do
  let c : Dev nD ← Prog.lift .deviceId
  handshake c
  firstTiles c
  steps (rsStep c) [0, 1, 2, 3, 4, 5, 6, 7, 8, 9, 10, 11, 12, 13]
  rsSend c 14
  rsRecv c 14
  handOver c
  steps (agStep c) [0, 1, 2, 3, 4, 5, 6, 7, 8, 9, 10, 11, 12, 13, 14]

end Cert.KernelIdealProof

end
-- ==== Proof.Geometry.lean ====
/-
# Positions on the ring, the places the kernel computes, and the elements they cover
-/
module

public import proofs.«01_k».proof.Proof.Steps
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.Sem

variable {F : FTy → Type} [FloatOps F]

/-! ## The ring -/

/-- A device's position on the ring, and the device at a position. -/
def pos (c : Dev nD) : ℕ := (![0, 7, 8, 15, 1, 6, 9, 14, 2, 5, 10, 13, 3, 4, 11, 12] : Fin 16 → ℕ) c
def ring (j : ℕ) : Dev nD := (![0, 4, 8, 12, 13, 9, 5, 1, 2, 6, 10, 14, 15, 11, 7, 3] : Fin 16 → Fin 16) ⟨j % 16, Nat.mod_lt _ (by decide)⟩
def right (c : Dev nD) : Dev nD := ring (pos c + 1)
def left (c : Dev nD) : Dev nD := ring (pos c + 15)

theorem pos_lt (c : Dev nD) : pos c < 16 := by revert c; decide +kernel
theorem ring_pos (c : Dev nD) : ring (pos c) = c := by revert c; decide +kernel
theorem pos_right (c : Dev nD) : pos (right c) = (pos c + 1) % 16 := by revert c; decide +kernel
theorem pos_left (c : Dev nD) : pos (left c) = (pos c + 15) % 16 := by revert c; decide +kernel
theorem left_right (c : Dev nD) : left (right c) = c := by revert c; decide +kernel
theorem right_left (c : Dev nD) : right (left c) = c := by revert c; decide +kernel
theorem right_ne (c : Dev nD) : right c ≠ c := by revert c; decide +kernel
theorem left_ne_right (c : Dev nD) : left c ≠ right c := by revert c; decide +kernel
theorem devR_eq (c : Dev nD) : devR c = right c := by revert c; decide +kernel
theorem devL_eq (c : Dev nD) : devL c = left c := by revert c; decide +kernel
theorem ring_mod (j : ℕ) : ring (j % 16) = ring j := by unfold ring; simp only [Nat.mod_mod]

/-- The chunk `k` places behind, and ahead of, device `c`; and how far behind or ahead a chunk is. -/
def behind (c : Dev nD) (k : ℕ) : ℕ := (pos c + 16 - k) % 16
def ahead (c : Dev nD) (k : ℕ) : ℕ := (pos c + k) % 16
def ageT (c : Dev nD) (j : ℕ) : ℕ := (pos c + 16 - j) % 16
def ageB (c : Dev nD) (j : ℕ) : ℕ := (j + 16 - pos c) % 16

theorem off1_eq' (c : Dev nD) : k0_off1 c = ![32 * (2 * behind c 0), 0] := by revert c; decide +kernel
theorem off2_eqT (c : Dev nD) : k0_off2 c = ![behind c 0, 0, 0] := by revert c; decide +kernel
theorem off2_eqB (c : Dev nD) : k0_off2 c = ![ahead c 0, 0, 0] := by revert c; decide +kernel
theorem off3_eq' (c : Dev nD) : k0_off3 c = ![32 * (2 * ahead c 0 + 1), 0] := by revert c; decide +kernel
theorem off4_eq' (c : Dev nD) : k0_off4 c = ![32 * (2 * behind c 1), 0] := by revert c; decide +kernel
theorem off5_eqT (c : Dev nD) : k0_off5 c = ![behind c 1, 0, 0] := by revert c; decide +kernel
theorem off5_eqB (c : Dev nD) : k0_off5 c = ![ahead c 15, 0, 0] := by revert c; decide +kernel
theorem off6_eq' (c : Dev nD) : k0_off6 c = ![32 * (2 * ahead c 1 + 1), 0] := by revert c; decide +kernel
theorem off7_eqB (c : Dev nD) : k0_off7 c = ![ahead c 1, 0, 0] := by revert c; decide +kernel
theorem off7_eqT (c : Dev nD) : k0_off7 c = ![behind c 15, 0, 0] := by revert c; decide +kernel
theorem off8_eq' (c : Dev nD) (s : Fin 15) : k0_off8 c (bv s) = ![behind c s, 0, 0] := by revert c s; decide +kernel
theorem off9_eq' (c : Dev nD) (s : Fin 15) : k0_off9 c (bv s) = ![ahead c s, 0, 0] := by revert c s; decide +kernel
theorem off10_eq' (c : Dev nD) (s : Fin 15) : k0_off10 c (bv s) = ![32 * (2 * behind c (s + 2)), 0] := by revert c s; decide +kernel
theorem off11_eq1 (c : Dev nD) (s : Fin 15) : k0_off11 c (bv s) 1#32 = ![behind c (s + 1), 0, 0] := by revert c s; decide +kernel
theorem off11_eq2 (c : Dev nD) (s : Fin 15) : k0_off11 c (bv s) 2#32 = ![behind c (s + 2), 0, 0] := by revert c s; decide +kernel
theorem off12_eq' (c : Dev nD) (s : Fin 15) : k0_off12 c (bv s) = ![32 * (2 * ahead c (s + 2) + 1), 0] := by revert c s; decide +kernel
theorem off13_eq1 (c : Dev nD) (s : Fin 15) : k0_off13 c (bv s) 1#32 = ![ahead c (s + 1), 0, 0] := by revert c s; decide +kernel
theorem off13_eq2 (c : Dev nD) (s : Fin 15) : k0_off13 c (bv s) 2#32 = ![ahead c (s + 2), 0, 0] := by revert c s; decide +kernel
theorem off14_eq' (c : Dev nD) : k0_off14 c = ![32 * (2 * behind c 15), 0] := by revert c; decide +kernel
theorem off15_eq' (c : Dev nD) : k0_off15 c = ![32 * (2 * ahead c 15 + 1), 0] := by revert c; decide +kernel
theorem off16_eq' (c : Dev nD) (t : Fin 15) : k0_off16 c (bv t) = ![32 * (2 * behind (right c) t), 0] := by revert c t; decide +kernel
theorem off17_eq' (c : Dev nD) (t : Fin 15) : k0_off17 c (bv t) = ![32 * (2 * ahead (left c) t + 1), 0] := by revert c t; decide +kernel

theorem behind_lt (c : Dev nD) (k : ℕ) : behind c k < 16 := Nat.mod_lt _ (by decide)
theorem ahead_lt (c : Dev nD) (k : ℕ) : ahead c k < 16 := Nat.mod_lt _ (by decide)
theorem ageT_behind (c : Dev nD) {k : ℕ} (hk : k < 16) : ageT c (behind c k) = k := by
  have := pos_lt c; unfold ageT behind; omega
theorem ageB_ahead (c : Dev nD) {k : ℕ} (hk : k < 16) : ageB c (ahead c k) = k := by
  have := pos_lt c; unfold ageB ahead; omega
theorem eq_behind_iff (c : Dev nD) {j k : ℕ} (hj : j < 16) (hk : k < 16) : j = behind c k ↔ ageT c j = k := by
  have := pos_lt c; unfold ageT behind; omega
theorem eq_ahead_iff (c : Dev nD) {j k : ℕ} (hj : j < 16) (hk : k < 16) : j = ahead c k ↔ ageB c j = k := by
  have := pos_lt c; unfold ageB ahead; omega
theorem ageT_lt (c : Dev nD) (k : ℕ) : ageT c k < 16 := Nat.mod_lt _ (by decide)
theorem ageB_lt (c : Dev nD) (k : ℕ) : ageB c k < 16 := Nat.mod_lt _ (by decide)
/-- A chunk is one place further from the next device than from this one. -/
theorem ageT_right (c : Dev nD) {j : ℕ} (hj : j < 16) : ageT (right c) j = (ageT c j + 1) % 16 := by
  have := pos_lt c; unfold ageT; rw [pos_right]; omega
theorem ageB_left (c : Dev nD) {j : ℕ} (hj : j < 16) : ageB (left c) j = (ageB c j + 1) % 16 := by
  have := pos_lt c; unfold ageB; rw [pos_left]; omega

/-! ## Element sets -/

/-- The indices with a property. -/
def fil {α : Type} [Fintype α] (p : α → Prop) : Finset α := @Finset.filter _ p (Classical.decPred p) Finset.univ

@[simp] theorem mem_fil {α : Type} [Fintype α] {p : α → Prop} {i : α} : i ∈ fil p ↔ p i := by simp [fil]

theorem fil_congr {α : Type} [Fintype α] {p q : α → Prop} (h : ∀ i, p i ↔ q i) : fil p = fil q := by ext i; simp [h]

abbrev I16 : Type := S16x32x1024.Idx
abbrev I15 : Type := S15x32x1024.Idx
abbrev IO : Type := S1024x1024.Idx

/-- A half chunk of the result's rows. -/
abbrev half (i : IO) : ℕ := (i 0).val / 32
abbrev chunk (i : IO) : ℕ := (i 0).val / 64

theorem slot_set16 (o : Fin 3 → ℕ) (j : ℕ) (h) (e : o = ![j, 0, 0]) :
    (Rect.unit (s := S16x32x1024) o S1x32x1024.size h).set = fil (fun i : I16 => (i 0).val = j) := by
  subst e; ext i
  rw [Rect.mem_set_unit, mem_fil]
  have h1 : (i 1).val < 32 := (i 1).isLt
  have h2 : (i 2).val < 1024 := (i 2).isLt
  constructor
  · intro hh; have := hh 0; simp at this; omega
  · intro hh a; fin_cases a <;> simp <;> omega

theorem slot_set15 (s : Fin 15) :
    (Rect.unit (s := S15x32x1024) ![s.val, 0, 0] S1x32x1024.size (inbC s)).set = fil (fun i : I15 => (i 0).val = s.val) := by
  ext i
  rw [Rect.mem_set_unit, mem_fil]
  have h1 : (i 1).val < 32 := (i 1).isLt
  have h2 : (i 2).val < 1024 := (i 2).isLt
  constructor
  · intro hh; have := hh 0; simp at this; omega
  · intro hh a; fin_cases a <;> simp <;> omega

theorem rows_set (o : Fin 2 → ℕ) (j : ℕ) (h) (e : o = ![32 * j, 0]) :
    (Rect.unit (s := S1024x1024) o S32x1024.size h).set = fil (fun i : IO => half i = j) := by
  subst e; ext i
  rw [Rect.mem_set_unit, mem_fil]
  have h2 : (i 1).val < 1024 := (i 1).isLt
  unfold half
  constructor
  · intro hh; have := hh 0; simp at this; omega
  · intro hh a; fin_cases a <;> simp <;> omega

end Cert.KernelIdealProof

end
-- ==== Proof.Contents.lean ====
/-
# What the buffers hold

Every buffer's contents is one function of the element for the whole run: a slot of a partial-sum buffer holds either
this device's own product or the running sum, a landing slot the running sum its sender held, the result rows the sum
over all devices. The steps move the sets on which each is held, never the functions.
-/
module

public import proofs.«01_k».proof.Proof.Geometry

@[expose] public section

noncomputable section

namespace Cert.KernelIdealProof

open Cert.KernelIdeal Cert.KernelIdeal.Gen
open Idealize.ShloMosaic Idealize.ShloMosaic.TcCoe
open Idealize.SL Idealize.SL.Sem

variable {F : FTy → Type} [FloatOps F]

/-! ## Tiles -/

/-- An element's place in its slot, its landing slot, its half chunk. -/
def tile16 (i : I16) : S1x32x1024.Idx := fun
  | ⟨0, _⟩ => (0 : Fin 1) | ⟨1, _⟩ => (⟨(i 1).val, (i 1).isLt⟩ : Fin 32) | ⟨2, _⟩ => (⟨(i 2).val, (i 2).isLt⟩ : Fin 1024)
def tile15 (i : I15) : S1x32x1024.Idx := fun
  | ⟨0, _⟩ => (0 : Fin 1) | ⟨1, _⟩ => (⟨(i 1).val, (i 1).isLt⟩ : Fin 32) | ⟨2, _⟩ => (⟨(i 2).val, (i 2).isLt⟩ : Fin 1024)
def tileO (i : IO) : S1x32x1024.Idx := fun
  | ⟨0, _⟩ => (0 : Fin 1) | ⟨1, _⟩ => (⟨(i 0).val % 32, Nat.mod_lt _ (by decide)⟩ : Fin 32) | ⟨2, _⟩ => (⟨(i 1).val, (i 1).isLt⟩ : Fin 1024)

/-- The thirty-two rows of `x` from half chunk `h`. -/
def rowIdx (h : ℕ) (y : S32x1024.Idx) : IO := fun
  | ⟨0, _⟩ => (⟨(32 * h + (y 0).val) % 1024, Nat.mod_lt _ (by decide)⟩ : Fin 1024) | ⟨1, _⟩ => (⟨(y 1).val, (y 1).isLt⟩ : Fin 1024)
def rowsOf (x : Vec F S1024x1024 .f32) (h : ℕ) : Vec F S32x1024 .f32 := fun y => x (rowIdx h y)

section Tiles
variable {o : Fin 3 → ℕ} {j : ℕ} {ho : ∀ a, o a + S1x32x1024.size a ≤ S16x32x1024.size a}

theorem emb16_0 (e : o = ![j, 0, 0]) (y : S1x32x1024.Idx) : ((Rect.unit (s := S16x32x1024) o S1x32x1024.size ho).emb y 0).val = j := by
  subst e
  have h0 : (y 0).val < 1 := (y 0).isLt
  rw [Rect.emb_apply]; simp; omega
theorem tile_emb16 (e : o = ![j, 0, 0]) (y : S1x32x1024.Idx) : tile16 ((Rect.unit (s := S16x32x1024) o S1x32x1024.size ho).emb y) = y := by
  subst e
  have h0 : (y 0).val < 1 := (y 0).isLt
  funext a
  fin_cases a
  · exact Fin.ext (by show 0 = (y 0).val; omega)
  · exact Fin.ext (by show ((Rect.unit (s := S16x32x1024) ![j, 0, 0] S1x32x1024.size ho).emb y 1).val = (y 1).val; rw [Rect.emb_apply]; simp)
  · exact Fin.ext (by show ((Rect.unit (s := S16x32x1024) ![j, 0, 0] S1x32x1024.size ho).emb y 2).val = (y 2).val; rw [Rect.emb_apply]; simp)
theorem emb15_0 (s : Fin 15) (y : S1x32x1024.Idx) : ((Rect.unit (s := S15x32x1024) ![s.val, 0, 0] S1x32x1024.size (inbC s)).emb y 0).val = s.val := by
  have h0 : (y 0).val < 1 := (y 0).isLt
  rw [Rect.emb_apply]; simp; omega
theorem tile_emb15 (s : Fin 15) (y : S1x32x1024.Idx) : tile15 ((Rect.unit (s := S15x32x1024) ![s.val, 0, 0] S1x32x1024.size (inbC s)).emb y) = y := by
  have h0 : (y 0).val < 1 := (y 0).isLt
  funext a
  fin_cases a
  · exact Fin.ext (by show 0 = (y 0).val; omega)
  · exact Fin.ext (by show ((Rect.unit (s := S15x32x1024) ![s.val, 0, 0] S1x32x1024.size (inbC s)).emb y 1).val = (y 1).val; rw [Rect.emb_apply]; simp)
  · exact Fin.ext (by show ((Rect.unit (s := S15x32x1024) ![s.val, 0, 0] S1x32x1024.size (inbC s)).emb y 2).val = (y 2).val; rw [Rect.emb_apply]; simp)
end Tiles

section Rows
variable {r : Fin 2 → ℕ} {j : ℕ} {hr : ∀ a, r a + S32x1024.size a ≤ S1024x1024.size a}

theorem embO_half (e : r = ![32 * j, 0]) (y : S32x1024.Idx) : half ((Rect.unit (s := S1024x1024) r S32x1024.size hr).emb y) = j := by
  subst e
  have h0 : (y 0).val < 32 := (y 0).isLt
  unfold half; rw [Rect.emb_apply]; simp; omega
theorem tile_embO (e : r = ![32 * j, 0]) (h : S32x1024.numel = S1x32x1024.numel) (y : S32x1024.Idx) :
    Shape.reshapeEquiv h y = tileO ((Rect.unit (s := S1024x1024) r S32x1024.size hr).emb y) := by
  subst e
  have h0 : (y 0).val < 32 := (y 0).isLt
  refine (Shape.reshapeEquiv_cons_one h y).trans (funext fun a => ?_)
  fin_cases a
  · rfl
  · refine Fin.ext ?_
    show (y 0).val = ((Rect.unit (s := S1024x1024) ![32 * j, 0] S32x1024.size hr).emb y 0).val % 32
    rw [Rect.emb_apply]; simp; omega
  · refine Fin.ext ?_
    show (y 1).val = ((Rect.unit (s := S1024x1024) ![32 * j, 0] S32x1024.size hr).emb y 1).val
    rw [Rect.emb_apply]; simp
theorem emb_rowIdx (e : r = ![32 * j, 0]) (y : S32x1024.Idx) : (Rect.unit (s := S1024x1024) r S32x1024.size hr).emb y = rowIdx j y := by
  subst e
  have h0 : (y 0).val < 32 := (y 0).isLt
  have h1 := hr 0
  funext a
  fin_cases a
  · apply Fin.ext; show _ = (32 * j + (y 0).val) % 1024; rw [Rect.emb_apply]; simp at h1 ⊢; omega
  · apply Fin.ext; show _ = (y 1).val; rw [Rect.emb_apply]; simp
end Rows

/-! ## The products and the running sums -/

/-- The operands on every device. -/
structure Operands (F : FTy → Type) where
  x : Dev nD → Vec F S1024x1024 .f32
  w1 : Dev nD → Vec F S1024x2048 .f32
  w2 : Dev nD → Vec F S2048x1024 .f32

section Values
variable (V : Operands F)

def partT (c : Dev nD) (j : ℕ) : Vec F S1x32x1024 .f32 := k0_pay1 (rowsOf (V.x c) (2 * j)) (V.w1 c) (V.w2 c)
def partB (c : Dev nD) (j : ℕ) : Vec F S1x32x1024 .f32 := k0_pay1 (rowsOf (V.x c) (2 * j + 1)) (V.w1 c) (V.w2 c)

/-- The running sum device `c` holds after `s` additions: its product for the chunk `s` behind it, added to what
    the device on its left held one addition before. -/
def accT : ℕ → Dev nD → Vec F S1x32x1024 .f32
  | 0, c => partT V c (behind c 0)
  | s + 1, c => k0_pay9 (partT V c (behind c (s + 1))) (accT s (left c))
def accB : ℕ → Dev nD → Vec F S1x32x1024 .f32
  | 0, c => partB V c (ahead c 0)
  | s + 1, c => k0_pay9 (partB V c (ahead c (s + 1))) (accB s (right c))

def prodT (c : Dev nD) (i : I16) : Elt F .f32 := partT V c (i 0).val (tile16 i)
def prodB (c : Dev nD) (i : I16) : Elt F .f32 := partB V c (i 0).val (tile16 i)
def sumT (c : Dev nD) (i : I16) : Elt F .f32 := accT V (ageT c (i 0).val) c (tile16 i)
def sumB (c : Dev nD) (i : I16) : Elt F .f32 := accB V (ageB c (i 0).val) c (tile16 i)
def landT (c : Dev nD) (i : I15) : Elt F .f32 := accT V (i 0).val (left c) (tile15 i)
def landB (c : Dev nD) (i : I15) : Elt F .f32 := accB V (i 0).val (right c) (tile15 i)
/-- The result: the top half of chunk `j` is what the device before `j` on the ring ends with, the bottom half what
    the device after it does. -/
def res (i : IO) : Elt F .f32 :=
  if half i % 2 = 0 then accT V 15 (ring (chunk i + 15)) (tileO i) else accB V 15 (ring (chunk i + 1)) (tileO i)
end Values

/-! ## Loads, stores and copies at their places -/

section Moves
variable {o : Fin 3 → ℕ} {j : ℕ} {ho : ∀ a, o a + S1x32x1024.size a ≤ S16x32x1024.size a}

theorem readT (e : o = ![j, 0, 0]) {f : I16 → Elt F .f32} {g : Vec F S1x32x1024 .f32} (h : ∀ i : I16, (i 0).val = j → f i = g (tile16 i)) :
    ptM.view.readAt (Elt F) (Rect.unit (s := S16x32x1024) o S1x32x1024.size ho).toLoadRect f = g := by
  funext y
  show f ((Rect.unit (s := S16x32x1024) o S1x32x1024.size ho).emb y) = g y
  rw [h _ (emb16_0 e y), tile_emb16 e]
theorem readB (e : o = ![j, 0, 0]) {f : I16 → Elt F .f32} {g : Vec F S1x32x1024 .f32} (h : ∀ i : I16, (i 0).val = j → f i = g (tile16 i)) :
    pbM.view.readAt (Elt F) (Rect.unit (s := S16x32x1024) o S1x32x1024.size ho).toLoadRect f = g := readT (F := F) e h
theorem readCT (s : Fin 15) {f : I15 → Elt F .f32} {g : Vec F S1x32x1024 .f32} (h : ∀ i : I15, (i 0).val = s.val → f i = g (tile15 i)) :
    ctM.view.readAt (Elt F) (Rect.unit (s := S15x32x1024) ![s.val, 0, 0] S1x32x1024.size (inbC s)).toLoadRect f = g := by
  funext y
  show f ((Rect.unit (s := S15x32x1024) ![s.val, 0, 0] S1x32x1024.size (inbC s)).emb y) = g y
  rw [h _ (emb15_0 s y), tile_emb15]
theorem readCB (s : Fin 15) {f : I15 → Elt F .f32} {g : Vec F S1x32x1024 .f32} (h : ∀ i : I15, (i 0).val = s.val → f i = g (tile15 i)) :
    cbM.view.readAt (Elt F) (Rect.unit (s := S15x32x1024) ![s.val, 0, 0] S1x32x1024.size (inbC s)).toLoadRect f = g := readCT (F := F) s h

theorem set_ptM (e : o = ![j, 0, 0]) : (ptM.access (Rect.unit (s := S16x32x1024) o S1x32x1024.size ho)).set = fil (fun i : I16 => (i 0).val = j) :=
  (View.set_slice_whole _ _).trans (slot_set16 o j ho e)
theorem set_pbM (e : o = ![j, 0, 0]) : (pbM.access (Rect.unit (s := S16x32x1024) o S1x32x1024.size ho)).set = fil (fun i : I16 => (i 0).val = j) :=
  (View.set_slice_whole _ _).trans (slot_set16 o j ho e)
theorem set_ctM (s : Fin 15) : (ctM.access (Rect.unit (s := S15x32x1024) ![s.val, 0, 0] S1x32x1024.size (inbC s))).set = fil (fun i : I15 => (i 0).val = s.val) :=
  (View.set_slice_whole _ _).trans (slot_set15 s)
theorem set_cbM (s : Fin 15) : (cbM.access (Rect.unit (s := S15x32x1024) ![s.val, 0, 0] S1x32x1024.size (inbC s))).set = fil (fun i : I15 => (i 0).val = s.val) :=
  (View.set_slice_whole _ _).trans (slot_set15 s)
theorem set_slotPT (e : o = ![j, 0, 0]) : (slotP ptM o ho).view.set = fil (fun i : I16 => (i 0).val = j) :=
  (View.set_reshape _ _).trans (set_ptM e)
theorem set_slotPB (e : o = ![j, 0, 0]) : (slotP pbM o ho).view.set = fil (fun i : I16 => (i 0).val = j) :=
  (View.set_reshape _ _).trans (set_pbM e)
theorem set_slotCT (s : Fin 15) : (slotC ctM s).view.set = fil (fun i : I15 => (i 0).val = s.val) :=
  (View.set_reshape _ _).trans (set_ctM s)
theorem set_slotCB (s : Fin 15) : (slotC cbM s).view.set = fil (fun i : I15 => (i 0).val = s.val) :=
  (View.set_reshape _ _).trans (set_cbM s)

theorem storeT (e : o = ![j, 0, 0]) (f : I16 → Elt F .f32) (w : Vec F S1x32x1024 .f32) (i : I16) (hi : (i 0).val = j) :
    (ptM.access (Rect.unit (s := S16x32x1024) o S1x32x1024.size ho)).write (Elt F) f w Finset.univ i = w (tile16 i) := by
  have hi' : i ∈ (ptM.access (Rect.unit (s := S16x32x1024) o S1x32x1024.size ho)).set := by rw [set_ptM e, mem_fil]; exact hi
  obtain ⟨y, -, rfl⟩ := Finset.mem_map.mp hi'
  refine (View.write_emb_of_mem (Val := Elt F) _ _ (Finset.mem_univ y)).trans ?_
  show w y = w (tile16 ((Rect.unit (s := S16x32x1024) o S1x32x1024.size ho).emb y))
  rw [tile_emb16 e]
theorem storeB (e : o = ![j, 0, 0]) (f : I16 → Elt F .f32) (w : Vec F S1x32x1024 .f32) (i : I16) (hi : (i 0).val = j) :
    (pbM.access (Rect.unit (s := S16x32x1024) o S1x32x1024.size ho)).write (Elt F) f w Finset.univ i = w (tile16 i) := by
  have hi' : i ∈ (pbM.access (Rect.unit (s := S16x32x1024) o S1x32x1024.size ho)).set := by rw [set_pbM e, mem_fil]; exact hi
  obtain ⟨y, -, rfl⟩ := Finset.mem_map.mp hi'
  refine (View.write_emb_of_mem (Val := Elt F) _ _ (Finset.mem_univ y)).trans ?_
  show w y = w (tile16 ((Rect.unit (s := S16x32x1024) o S1x32x1024.size ho).emb y))
  rw [tile_emb16 e]
theorem copyT (e : o = ![j, 0, 0]) (s : Fin 15) {f : I16 → Elt F .f32} {g : Vec F S1x32x1024 .f32} (h : ∀ i : I16, (i 0).val = j → f i = g (tile16 i))
    (fd : I15 → Elt F .f32) (i : I15) (hi : (i 0).val = s.val) :
    (slotC ctM s).view.write (Elt F) fd ((slotP ptM o ho).view.read (Elt F) f) Finset.univ i = g (tile15 i) := by
  have hi' : i ∈ (slotC ctM s).view.set := by rw [set_slotCT, mem_fil]; exact hi
  obtain ⟨x, -, rfl⟩ := Finset.mem_map.mp hi'
  refine (View.write_emb_of_mem (Val := Elt F) _ _ (Finset.mem_univ x)).trans ?_
  show f ((Rect.unit (s := S16x32x1024) o S1x32x1024.size ho).emb (Shape.reshapeEquiv squeezes_S1x32x1024_S32x1024.numel_eq x))
    = g (tile15 ((Rect.unit (s := S15x32x1024) ![s.val, 0, 0] S1x32x1024.size (inbC s)).emb (Shape.reshapeEquiv squeezes_S1x32x1024_S32x1024.numel_eq x)))
  rw [h _ (emb16_0 e _), tile_emb16 e, tile_emb15]
theorem copyB (e : o = ![j, 0, 0]) (s : Fin 15) {f : I16 → Elt F .f32} {g : Vec F S1x32x1024 .f32} (h : ∀ i : I16, (i 0).val = j → f i = g (tile16 i))
    (fd : I15 → Elt F .f32) (i : I15) (hi : (i 0).val = s.val) :
    (slotC cbM s).view.write (Elt F) fd ((slotP pbM o ho).view.read (Elt F) f) Finset.univ i = g (tile15 i) := by
  have hi' : i ∈ (slotC cbM s).view.set := by rw [set_slotCB, mem_fil]; exact hi
  obtain ⟨x, -, rfl⟩ := Finset.mem_map.mp hi'
  refine (View.write_emb_of_mem (Val := Elt F) _ _ (Finset.mem_univ x)).trans ?_
  show f ((Rect.unit (s := S16x32x1024) o S1x32x1024.size ho).emb (Shape.reshapeEquiv squeezes_S1x32x1024_S32x1024.numel_eq x))
    = g (tile15 ((Rect.unit (s := S15x32x1024) ![s.val, 0, 0] S1x32x1024.size (inbC s)).emb (Shape.reshapeEquiv squeezes_S1x32x1024_S32x1024.numel_eq x)))
  rw [h _ (emb16_0 e _), tile_emb16 e, tile_emb15]

variable {r : Fin 2 → ℕ} {hr : ∀ a, r a + S32x1024.size a ≤ S1024x1024.size a}

theorem readX (e : r = ![32 * j, 0]) (f : Vec F S1024x1024 .f32) :
    xM.view.readAt (Elt F) (Rect.unit (s := S1024x1024) r S32x1024.size hr).toLoadRect f = rowsOf f j := by
  funext y
  show f ((Rect.unit (s := S1024x1024) r S32x1024.size hr).emb y) = f (rowIdx j y)
  rw [emb_rowIdx e]
theorem zero2 : (![0, 0] : Fin 2 → ℕ) = fun _ => 0 := funext fun a => by fin_cases a <;> rfl
theorem readW1 (f : Vec F S1024x2048 .f32) :
    w1M.view.readAt (Elt F) (Rect.unit (s := S1024x2048) ![0, 0] S1024x2048.size inb_S1024x2048_S1024x2048_0_0).toLoadRect f = f :=
  Memref.readAt_unit_zero (Elt F) cc0_stg1_0 zero2 _ f
theorem readW2 (f : Vec F S2048x1024 .f32) :
    w2M.view.readAt (Elt F) (Rect.unit (s := S2048x1024) ![0, 0] S2048x1024.size inb_S2048x1024_S2048x1024_0_0).toLoadRect f = f :=
  Memref.readAt_unit_zero (Elt F) cc0_stg2_0 zero2 _ f

theorem set_oM (e : r = ![32 * j, 0]) : (oM.access (Rect.unit (s := S1024x1024) r S32x1024.size hr)).set = fil (fun i : IO => half i = j) :=
  (View.set_slice_whole _ _).trans (rows_set r j hr e)
theorem set_rowsO (e : r = ![32 * j, 0]) : (rowsO r hr).view.set = fil (fun i : IO => half i = j) := set_oM e

theorem storeO (e : r = ![32 * j, 0]) (f : IO → Elt F .f32) (w : Vec F S1x32x1024 .f32) (i : IO) (hi : half i = j) :
    (oM.access (Rect.unit (s := S1024x1024) r S32x1024.size hr)).write (Elt F) f (k0_pay83 w) Finset.univ i = w (tileO i) := by
  have hi' : i ∈ (oM.access (Rect.unit (s := S1024x1024) r S32x1024.size hr)).set := by rw [set_oM e, mem_fil]; exact hi
  obtain ⟨y, -, rfl⟩ := Finset.mem_map.mp hi'
  refine (View.write_emb_of_mem (Val := Elt F) _ _ (Finset.mem_univ y)).trans ?_
  exact congrArg w (tile_embO (hr := hr) e _ y)
theorem copyO (e : r = ![32 * j, 0]) (f fd : IO → Elt F .f32) (i : IO) (hi : half i = j) :
    (rowsO r hr).view.write (Elt F) fd ((rowsO r hr).view.read (Elt F) f) Finset.univ i = f i := by
  have hi' : i ∈ (rowsO r hr).view.set := by rw [set_rowsO e, mem_fil]; exact hi
  obtain ⟨y, -, rfl⟩ := Finset.mem_map.mp hi'
  exact View.write_emb_of_mem (Val := Elt F) _ _ (Finset.mem_univ y)
end Moves

end Cert.KernelIdealProof

end
-- ==== Proof.Protocol.lean ====
/-
# The protocol

Two rings run at once, one carrying the top half of every row chunk rightwards, the other the bottom half leftwards;
first the partial sums travel (fifteen reduce steps), then the finished rows (fifteen gather steps). So there are four
wires, each with fifteen send and fifteen receive semaphores on every device, and each semaphore serves one copy.

* The barrier semaphore of device `c` is signalled once by each neighbour. The right neighbour's signal hands `c` that
  neighbour's landing buffer of the rightward wire and the result rows it will receive there; the left neighbour's the
  mirror image. `c` waits for both before its first copy.
* A send semaphore's one wait gives back the elements copied from, holding what was sent.
* A receive semaphore's one wait gives the landed elements, holding what the neighbour held.

Waits are ordered: staging and send semaphores at level 0, the barrier at 1, the receive semaphore of reduce step `s` at
`2 + s` and of gather step `t` at `17 + t`. At each wait a device owes only credits of strictly higher levels.
-/
module

public import proofs.«01_k».proof.Proof.Contents
public import proofs.«01_k».proof.Proof.Gen.KernelIdeal.Launch

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Element sets by age -/

def setT (c : Dev nD) (p : ℕ → Prop) : Finset I16 := fil fun i => p (ageT c (i 0).val)
def setB (c : Dev nD) (p : ℕ → Prop) : Finset I16 := fil fun i => p (ageB c (i 0).val)
def setC (p : ℕ → Prop) : Finset I15 := fil fun i => p (i 0).val
def outT (c : Dev nD) (p : ℕ → Prop) : Finset IO := fil fun i => half i % 2 = 0 ∧ p (ageT c (chunk i))
def outB (c : Dev nD) (p : ℕ → Prop) : Finset IO := fil fun i => half i % 2 = 1 ∧ p (ageB c (chunk i))

/-! ## What is held of the buffers -/

abbrev ptT (c : Dev nD) (S : Finset I16) (f : I16 → Elt F .f32) : sProp 𝕄 := ((c : Thread nD τ).loc cc0_scratch0) ↦[S]{fullShare} f
abbrev ptB (c : Dev nD) (S : Finset I16) (f : I16 → Elt F .f32) : sProp 𝕄 := ((c : Thread nD τ).loc cc0_scratch1) ↦[S]{fullShare} f
abbrev ctT (c : Dev nD) (S : Finset I15) (f : I15 → Elt F .f32) : sProp 𝕄 := ((c : Thread nD τ).loc cc0_scratch2) ↦[S]{fullShare} f
abbrev ctB (c : Dev nD) (S : Finset I15) (f : I15 → Elt F .f32) : sProp 𝕄 := ((c : Thread nD τ).loc cc0_scratch3) ↦[S]{fullShare} f
abbrev outP (c : Dev nD) (S : Finset IO) (f : IO → Elt F .f32) : sProp 𝕄 := ((c : Thread nD τ).loc cc0_stg3_0) ↦[S]{fullShare} f

/-! ## Semaphores and cells -/

/-- Wire `w`'s send and receive semaphores of step `s`. -/
def sndS (w : Fin 4) (s : Fin 15) : DmaSem sig := match w with
  | 0 => semAt cc0_scratch4 s | 1 => semAt cc0_scratch6 s | 2 => semAt cc0_scratch8 s | 3 => semAt cc0_scratch10 s
def rcvS (w : Fin 4) (s : Fin 15) : DmaSem sig := match w with
  | 0 => semAt cc0_scratch5 s | 1 => semAt cc0_scratch7 s | 2 => semAt cc0_scratch9 s | 3 => semAt cc0_scratch11 s

theorem sndS_val (w : Fin 4) (s : Fin 15) : (sndS w s).val = 4 + 30 * w.val + s.val := by revert w s; decide +kernel
theorem rcvS_val (w : Fin 4) (s : Fin 15) : (rcvS w s).val = 4 + 30 * w.val + 15 + s.val := by revert w s; decide +kernel

abbrev barC (c : Dev nD) : GSem nD τ sig := ((c : Thread nD τ), .reg barS)
abbrev sndC (c : Dev nD) (w : Fin 4) (s : Fin 15) : GSem nD τ sig := ((c : Thread nD τ), .dma (sndS w s))
abbrev rcvC (c : Dev nD) (w : Fin 4) (s : Fin 15) : GSem nD τ sig := ((c : Thread nD τ), .dma (rcvS w s))

/-- Where a wire leads, and where it comes from. -/
def fwd (w : Fin 4) (c : Dev nD) : Dev nD := if w.val % 2 = 0 then right c else left c
def bwd (w : Fin 4) (c : Dev nD) : Dev nD := if w.val % 2 = 0 then left c else right c
theorem fwd_bwd (w : Fin 4) (c : Dev nD) : fwd w (bwd w c) = c := by revert w c; decide +kernel
theorem bwd_fwd (w : Fin 4) (c : Dev nD) : bwd w (fwd w c) = c := by revert w c; decide +kernel

/-- A copy's credit. -/
abbrev N : ℕ := (slotC ctM 0).view.dmaCredit
theorem N_pos : 0 < N := View.dmaCredit_pos _ (by decide)
theorem N_ctM (s : Fin 15) : (slotC ctM s).view.dmaCredit = N := rfl
theorem N_cbM (s : Fin 15) : (slotC cbM s).view.dmaCredit = N := rfl
theorem N_ptM (o ho) : (slotP ptM o ho).view.dmaCredit = N := rfl
theorem N_pbM (o ho) : (slotP pbM o ho).view.dmaCredit = N := rfl
theorem N_out (o ho) : (rowsO o ho).view.dmaCredit = N := rfl

/-! ## The schedule -/

section Sched
variable (V : Operands F)

/-- What wire `w`'s semaphores of step `s` hand their owner. -/
def wirePay (c : Dev nD) (s : ℕ) : ℕ → Bool → sProp 𝕄
  | 0, false => ptT c (setT c fun k => k = s) (sumT V c)
  | 0, true => ctT c (setC fun k => k = s) (landT V c)
  | 1, false => ptB c (setB c fun k => k = s) (sumB V c)
  | 1, true => ctB c (setC fun k => k = s) (landB V c)
  | 2, false => outP c (outT c fun k => k = (s + 15) % 16) (res V)
  | 2, true => outP c (outT c fun k => k = s) (res V)
  | _ + 3, false => outP c (outB c fun k => k = (s + 15) % 16) (res V)
  | _ + 3, true => outP c (outB c fun k => k = s) (res V)

/-- What the right neighbour's signal (`true`) and the left neighbour's (`false`) hand device `c`. -/
def barPay (c : Dev nD) : Bool → sProp 𝕄
  | true => iprop((∃ f, ctT (right c) (setC fun _ => True) f) ∗ ∃ f, outP (right c) (outT (right c) fun k => k < 15) f)
  | false => iprop((∃ f, ctB (left c) (setC fun _ => True) f) ∗ ∃ f, outP (left c) (outB (left c) fun k => k < 15) f)

def semPay (c : Dev nD) (q : SemLoc sig) (d : Bool) : sProp 𝕄 := match q with
  | .reg _ => barPay c d
  | .dma q => wirePay V c ((q.val - 4) % 15) ((q.val - 4) / 30) (decide (15 ≤ (q.val - 4) % 30))

instance semPay_storable (c : Dev nD) (q : SemLoc sig) (d : Bool) : BI.Storable (upEmb : UEmb _ 𝕄) (semPay V c q d) := by
  unfold semPay
  split
  · unfold barPay; split <;> infer_instance
  · unfold wirePay; split <;> infer_instance

/-- One round. The barrier cell has a unit due from either neighbour, every other cell one copy's credit. -/
def sched : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := semPay V g.1.1 g.2 d
  amount_pos g _ _ _ := by
    split
    · exact Nat.one_pos
    · exact N_pos

instance sched_storable (g : GSem nD τ sig) (r : ℕ) (d : Bool) : BI.Storable (upEmb : UEmb _ 𝕄) ((sched V).payload g r d) :=
  semPay_storable V g.1.1 g.2 d

theorem duties_bar (c : Dev nD) : (sched V).duties (barC c) 0 = Finset.univ := rfl
theorem duties_dma (c : Dev nD) (q : DmaSem sig) : (sched V).duties ((c : Thread nD τ), .dma q) 0 = {false} := rfl
theorem duties_later (g : GSem nD τ sig) : ∀ r, 1 ≤ r → (sched V).duties g r = ∅ := fun r hr => if_neg (by omega)
theorem expect_bar (c : Dev nD) : (sched V).expect (barC c) 0 = 2 := rfl
theorem expect_dma (c : Dev nD) (q : DmaSem sig) : (sched V).expect ((c : Thread nD τ), .dma q) 0 = N := by
  unfold Schedule.expect Schedule.amountOf; rw [duties_dma, Finset.sum_singleton]; rfl

theorem pay_snd (c : Dev nD) (w : Fin 4) (s : Fin 15) (d : Bool) : (sched V).payload (sndC c w s) 0 d = wirePay V c s.val w.val false := by
  show wirePay V c (((sndS w s).val - 4) % 15) (((sndS w s).val - 4) / 30) (decide (15 ≤ ((sndS w s).val - 4) % 30)) = _
  rw [sndS_val]
  have := s.isLt
  rw [show (4 + 30 * w.val + s.val - 4) % 15 = s.val by omega, show (4 + 30 * w.val + s.val - 4) / 30 = w.val by omega,
    show decide (15 ≤ (4 + 30 * w.val + s.val - 4) % 30) = false from decide_eq_false (by omega)]
theorem pay_rcv (c : Dev nD) (w : Fin 4) (s : Fin 15) (d : Bool) : (sched V).payload (rcvC c w s) 0 d = wirePay V c s.val w.val true := by
  show wirePay V c (((rcvS w s).val - 4) % 15) (((rcvS w s).val - 4) / 30) (decide (15 ≤ ((rcvS w s).val - 4) % 30)) = _
  rw [rcvS_val]
  have := s.isLt
  rw [show (4 + 30 * w.val + 15 + s.val - 4) % 15 = s.val by omega, show (4 + 30 * w.val + 15 + s.val - 4) / 30 = w.val by omega,
    show decide (15 ≤ (4 + 30 * w.val + 15 + s.val - 4) % 30) = true from decide_eq_true (by omega)]

theorem rest_bar (c : Dev nD) : bigSep ((sched V).duties (barC c) 0 \ ∅) (fun d => (sched V).payload (barC c) 0 d) = iprop(barPay c false ∗ barPay c true) := by
  rw [Finset.sdiff_empty, duties_bar, bigSep_univ_eq_bigSepL [false, true] (by decide) (by decide), bigSepL_cons_cons, bigSepL_singleton]
  rfl
theorem rest_dma (c : Dev nD) (q : DmaSem sig) : bigSep ((sched V).duties ((c : Thread nD τ), .dma q) 0 \ ∅) (fun d => (sched V).payload ((c : Thread nD τ), .dma q) 0 d)
    = (sched V).payload ((c : Thread nD τ), .dma q) 0 false := by
  rw [Finset.sdiff_empty, duties_dma, bigSep_singleton]

end Sched

/-! ## Debts and levels -/

/-- What device `c` owes for the copy of step `s` on wire `w`, and for a list of copies. -/
abbrev due (c : Dev nD) (ws : Fin 4 × Fin 15) : CellTallies nD τ sig Unit := tallyAt (rcvC (fwd ws.1 c) ws.1 ws.2) () N
def owe (c : Dev nD) : List (Fin 4 × Fin 15) → CellTallies nD τ sig Unit
  | [] => 0
  | ws :: l => owe c l + due c ws

/-- The copies of a list of reduce steps, of gather steps. -/
def rsL : List (Fin 15) → List (Fin 4 × Fin 15)
  | [] => []
  | s :: l => (0, s) :: (1, s) :: rsL l
def agL : List (Fin 15) → List (Fin 4 × Fin 15)
  | [] => []
  | s :: l => (2, s) :: (3, s) :: agL l
abbrev allSteps : List (Fin 15) := [0, 1, 2, 3, 4, 5, 6, 7, 8, 9, 10, 11, 12, 13, 14]
abbrev allCopies : List (Fin 4 × Fin 15) := rsL allSteps ++ agL allSteps

/-- What a device owes at launch: every copy, and a unit to each neighbour's barrier, the left's first. -/
def oweR (c : Dev nD) : CellTallies nD τ sig Unit := owe c allCopies + tallyAt (barC (right c)) () 1
def owe₀ (c : Dev nD) : CellTallies nD τ sig Unit := oweR c + tallyAt (barC (left c)) () 1

def L (g : GSem nD τ sig) : Finset Unit := if g.1.2 = .tc then {()} else ∅
def level : SemLoc sig → ℕ
  | .reg _ => 1
  | .dma q => if q.val < 4 then 0 else if (q.val - 4) % 30 < 15 then 0 else if (q.val - 4) / 30 < 2 then 2 + (q.val - 4) % 15 else 17 + (q.val - 4) % 15
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl

/-- The level of a copy's receive semaphore. -/
def copyLevel (ws : Fin 4 × Fin 15) : ℕ := if ws.1.val < 2 then 2 + ws.2.val else 17 + ws.2.val
theorem level_rcv (w : Fin 4) (s : Fin 15) : level (.dma (rcvS w s)) = copyLevel (w, s) := by revert w s; decide +kernel
theorem level_snd (w : Fin 4) (s : Fin 15) : level (.dma (sndS w s)) = 0 := by revert w s; decide +kernel

theorem owe_pos {c : Dev nD} {l : List (Fin 4 × Fin 15)} {g : GSem nD τ sig} {u : Unit} (h : 0 < owe c l g u) :
    ∃ ws ∈ l, g = rcvC (fwd ws.1 c) ws.1 ws.2 := by
  induction l with
  | nil => exact absurd h (Nat.lt_irrefl 0)
  | cons ws l ih =>
    unfold owe at h
    rw [Pi.add_apply, Finsupp.add_apply, tallyAt_apply] at h
    by_cases hg : g = rcvC (fwd ws.1 c) ws.1 ws.2
    · exact ⟨ws, List.mem_cons_self, hg⟩
    · rw [if_neg fun h' => hg h'.1] at h
      obtain ⟨ws', h1, h2⟩ := ih h
      exact ⟨ws', List.mem_cons_of_mem _ h1, h2⟩

/-- A wait below every copy still owed is allowed. -/
theorem mayWait_owe (c : Dev nD) (sm : SemLoc sig) (l : List (Fin 4 × Fin 15)) (h : ∀ ws ∈ l, level sm < copyLevel ws) :
    (levAts L lv : sProp 𝕄) ⊢ MayWait (c : Thread nD τ) sm () (owe c l) :=
  MayOwe.of_cut (L := L) (lev := lv) (level sm) (fun p hp => by rw [Finset.mem_singleton.mp hp, L_tc]; exact Finset.mem_singleton_self _)
    (fun g u hg => by obtain ⟨ws, -, rfl⟩ := owe_pos hg; rw [L_tc]; exact Finset.mem_singleton_self _)
    (fun p hp => by rw [Finset.mem_singleton.mp hp]; exact le_refl _)
    (fun g u hg => by obtain ⟨ws, hw, rfl⟩ := owe_pos hg; show level sm < level _; rw [level_rcv]; exact h ws hw)

/-- At launch a staging semaphore is below everything owed. -/
theorem mayWait_stage (c : Dev nD) (sm : SemLoc sig) (h : level sm = 0) : (levAts L lv : sProp 𝕄) ⊢ MayWait (c : Thread nD τ) sm () (owe₀ c) := by
  have hpos : ∀ {g : GSem nD τ sig} {u : Unit}, 0 < owe₀ c g u → (∃ (d : Dev nD) (sm' : SemLoc sig), g = ((d : Thread nD τ), sm')) ∧ 0 < level g.2 := by
    intro g u hg
    unfold owe₀ oweR at hg
    rw [Pi.add_apply, Finsupp.add_apply, Pi.add_apply, Finsupp.add_apply, tallyAt_apply, tallyAt_apply] at hg
    by_cases h1 : g = barC (right c)
    · subst h1; exact ⟨⟨_, _, rfl⟩, Nat.one_pos⟩
    by_cases h2 : g = barC (left c)
    · subst h2; exact ⟨⟨_, _, rfl⟩, Nat.one_pos⟩
    rw [if_neg fun h' => h1 h'.1, if_neg fun h' => h2 h'.1, Nat.add_zero] at hg
    obtain ⟨ws, -, rfl⟩ := owe_pos hg
    refine ⟨⟨_, _, rfl⟩, ?_⟩
    show 0 < level _
    rw [level_rcv]; unfold copyLevel; split <;> omega
  refine MayOwe.of_cut (L := L) (lev := lv) 0 (fun p hp => by rw [Finset.mem_singleton.mp hp, L_tc]; exact Finset.mem_singleton_self _)
    (fun g u hg => ?_) (fun p hp => by rw [Finset.mem_singleton.mp hp]; exact le_of_eq h) (fun g u hg => (hpos hg).2)
  obtain ⟨⟨d, sm', rfl⟩, -⟩ := hpos hg
  rw [L_tc]; exact Finset.mem_singleton_self _

end Cert.KernelIdealProof

end
-- ==== Proof.Pieces.lean ====
/-
# The pieces of a step, executed

One rule per piece: the tile product into a slot, the addition of a landed slot, a copy's start, a wait.
-/
module

public import proofs.«01_k».proof.Proof.Protocol

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running a program on device `c`. -/
abbrev run {α : Type} (c : Dev nD) (p : P (F := F) α) (Q : α → sProp 𝕄) : sProp 𝕄 :=
  wp frame (wpE (defs₀ (F := F)) 𝒱₀ (c : Thread nD τ) none) Set.univ p Q

/-! ## All cells, numbered; their invariants -/

/-- The protocol's semaphores: the hundred and twenty of the copies, then the barrier. -/
def csem (i : Fin 121) : SemLoc sig := if h : i.val < 120 then .dma ⟨4 + i.val, by show 4 + i.val < 124; omega⟩ else .reg barS
def kcell (ck : Dev nD × Fin 121) : GSem nD τ sig := ((ck.1 : Thread nD τ), csem ck.2)
def iS (w : Fin 4) (s : Fin 15) : Fin 121 := ⟨30 * w.val + s.val, by omega⟩
def iR (w : Fin 4) (s : Fin 15) : Fin 121 := ⟨30 * w.val + 15 + s.val, by omega⟩
def iB : Fin 121 := ⟨120, by omega⟩
theorem csem_iS (w : Fin 4) (s : Fin 15) : csem (iS w s) = .dma (sndS w s) := by revert w s; decide +kernel
theorem csem_iR (w : Fin 4) (s : Fin 15) : csem (iR w s) = .dma (rcvS w s) := by revert w s; decide +kernel
theorem csem_iB : csem iB = .reg barS := by decide +kernel

section Recs
variable (V : Operands F) (K : Dev nD × Fin 121 → ℕ)

/-- Every cell's invariant, every cell begun, and the levels. -/
def recs : sProp 𝕄 :=
  iprop((bigSep Finset.univ fun ck : Dev nD × Fin 121 => cellInv ER (sched V) (K ck) (kcell ck))
    ∗ (bigSep Finset.univ fun ck : Dev nD × Fin 121 => reached ER (kcell ck) 0) ∗ (levAts L lv : sProp 𝕄))
instance recs_persistent : BI.Persistent (recs V K) := by unfold recs; infer_instance

theorem inv_at (ck : Dev nD × Fin 121) :
    (bigSep Finset.univ fun ck : Dev nD × Fin 121 => (cellInv ER (sched V) (K ck) (kcell ck) : sProp 𝕄)) ⊢ cellInv ER (sched V) (K ck) (kcell ck) :=
  bigSep_elim (Finset.mem_univ ck)
omit [FloatOps F] in
theorem reached_at (ck : Dev nD × Fin 121) :
    (bigSep Finset.univ fun ck : Dev nD × Fin 121 => (reached ER (kcell ck) 0 : sProp 𝕄)) ⊢ reached ER (kcell ck) 0 :=
  bigSep_elim (Finset.mem_univ ck)
theorem recs_inv (c : Dev nD) {i : Fin 121} {sm : SemLoc sig} (h : csem i = sm) : recs V K ⊢ cellInv ER (sched V) (K (c, i)) ((c : Thread nD τ), sm) := by
  subst h; unfold recs
  iintro ⟨H, -, -⟩
  iapply (inv_at V K (c, i)); iexact H
theorem recs_reached (c : Dev nD) {i : Fin 121} {sm : SemLoc sig} (h : csem i = sm) : recs V K ⊢ reached ER ((c : Thread nD τ), sm) 0 := by
  subst h; unfold recs
  iintro ⟨-, H, -⟩
  iapply (reached_at (F := F) (c, i)); iexact H
theorem recs_wait (c : Dev nD) (sm : SemLoc sig) (l : List (Fin 4 × Fin 15)) (hl : ∀ ws ∈ l, level sm < copyLevel ws) :
    recs V K ⊢ (MayWait (c : Thread nD τ) sm () (owe c l) : sProp 𝕄) := by
  unfold recs
  iintro ⟨-, -, H⟩
  iapply (mayWait_owe (F := F) c sm l hl); iexact H

/-- What device `c` owes, whatever it has waited for. -/
def ow (c : Dev nD) (l : List (Fin 4 × Fin 15)) : sProp 𝕄 := iprop(∃ W, owes (c : Thread nD τ) (owe c l) W)

/-! ## Copies and waits -/

/-- A copy of step `s` on wire `w`. -/
theorem send_wp (c n : Dev nD) (w : Fin 4) (s : Fin 15) (hn : n = fwd w c) (l : List (Fin 4 × Fin 15))
    {src : Memref sig .tc .vmem S32x1024 .f32} {dst : Memref sig (Dev.tc n : Thread nD τ).2.kind .vmem S32x1024 .f32}
    {hsc : dst.view.ref.isScScratch = false} {hsrc : src.view.WordExact} {hdst : dst.view.WordExact}
    {hsem : DmaTarget.Typed .vmem (.dma (rcvS w s)) (.remote (Dev.tc n : Thread nD τ) dst (.dma (sndS w s)) hsc)}
    (fs : Buf (Elt F) (src.view.loc (c : Thread nD τ))) (fd : Buf (Elt F) (dst.view.loc (Dev.tc n : Thread nD τ))) (hN : dst.view.dmaCredit = N)
    (h1 : (src.view.loc (c : Thread nD τ) ↦[src.view.set]{fullShare} fs) ⊢ wirePay V c s.val w.val false)
    (h2 : (dst.view.loc (Dev.tc n : Thread nD τ) ↦[dst.view.set]{fullShare} (dst.view.write (Elt F) fd (src.view.read (Elt F) fs) Finset.univ)) ⊢ wirePay V n s.val w.val true)
    (Q : PUnit → sProp 𝕄) :
    iprop(recs V K ∗ (src.view.loc (c : Thread nD τ) ↦[src.view.set]{fullShare} fs) ∗ (dst.view.loc (Dev.tc n : Thread nD τ) ↦[dst.view.set]{fullShare} fd)
        ∗ ow c ((w, s) :: l) ∗ dutyTok ER (sndC c w s) 0 false ∗ dutyTok ER (rcvC (fwd w c) w s) 0 false
        ∗ ((cred (tallyAt (sndC c w s) () N) ∗ ow c l) -∗ Q ⟨⟩))
      ⊢ run c (Prog.lift (.enqueueDma src (.remote (Dev.tc n : Thread nD τ) dst (.dma (sndS w s)) hsc) (.dma (rcvS w s)) hsrc hdst hsem)) Q := by
  subst hn
  unfold ow run
  iintro ⟨#HR, Hs, Hd, ⟨%W, HO⟩, Ht1, Ht2, HQ⟩
  iapply (Rounds.wp_send_pointsTo 𝒱₀ ER (sched V) (c : Thread nD τ) none (κ₁ := K (c, iS w s)) (κ₂ := K (fwd w c, iR w s))
    (r₁ := 0) (r₂ := 0) (d₁ := false) (d₂ := false) (fd := fd) (Finset.mem_singleton_self _) (Finset.mem_singleton_self _)
    () () N (by exact hN) rfl rfl (owe c l) rfl (W := W)
    (by rw [pay_snd]; exact h1) (by rw [pay_rcv]; exact h2)) $$ [Hs Hd HO Ht1 Ht2]
  · isplitr; · iapply (recs_inv V K c (csem_iS w s)); iexact HR
    isplitr; · iapply (recs_inv V K (fwd w c) (csem_iR w s)); iexact HR
    isplitl [Hs]; · iexact Hs
    isplitl [Hd]; · iexact Hd
    isplitl [HO]; · iexact HO
    isplitl [Ht1]; · iexact Ht1
    isplitr; · iapply (recs_reached V K c (csem_iS w s)); iexact HR
    isplitl [Ht2]; · iexact Ht2
    iapply (recs_reached V K (fwd w c) (csem_iR w s)); iexact HR
  iintro ⟨Hc, HO⟩
  rw [wp_ret]; imodintro
  iapply HQ
  isplitl [Hc]; · iexact Hc
  iexists W; iexact HO

/-- The one wait on a copy's semaphore, after which its counter is zero for good. -/
theorem wait_wp (c : Dev nD) (q : DmaSem sig) {i : Fin 121} (hi : csem i = .dma q) (l : List (Fin 4 × Fin 15))
    (hl : ∀ ws ∈ l, level (.dma q) < copyLevel ws)
    {src dst : Memref sig .tc .vmem S32x1024 .f32} {hsrc : src.view.WordExact} {hdst : dst.view.WordExact} (hN : dst.view.dmaCredit = N) (Q : PUnit → sProp 𝕄) :
    iprop(recs V K ∗ cred (tallyAt ((c : Thread nD τ), .dma q) () N) ∗ ow c l ∗ atPos ER ((c : Thread nD τ), .dma q) 0 ∅ 0
        ∗ ((ow c l ∗ semVal ((c : Thread nD τ), .dma q) 0 ∗ (sched V).payload ((c : Thread nD τ), .dma q) 0 false) -∗ Q ⟨⟩))
      ⊢ run c (Prog.lift (.waitDma2 q src dst hsrc hdst)) Q := by
  unfold ow run
  have hw : ∀ R : PUnit → sProp 𝕄, wpE (defs₀ (F := F)) 𝒱₀ (c : Thread nD τ) none Set.univ (.waitDma2 q src dst hsrc hdst) R
      = waitSpec (c : Thread nD τ) Set.univ (.dma q) N R :=
    fun R => (wpE_waitDma2_eq 𝒱₀ (c : Thread nD τ) none Set.univ R).trans (by rw [hN])
  iintro ⟨#HR, Hc, ⟨%W, HO⟩, Hat, HQ⟩
  iapply (Rounds.wp_wait_rest_token 𝒱₀ ER (sched V) (c : Thread nD τ) none (κ := K (c, i))
      hw (Set.mem_univ _) () (O := owe c l) (W := W) (R := 0) (m := 0) (T := ∅)
      (by rw [Nat.zero_add, expect_dma])) $$ [Hc HO Hat]
  · isplitr; · iapply (recs_inv V K c hi); iexact HR
    isplitl [Hc]; · iexact Hc
    isplitl [HO]; · iexact HO
    isplitr; · iapply (recs_wait V K c (.dma q) l hl); iexact HR
    iexact Hat
  iintro ⟨HO, Hat, -, Hpay⟩
  ihave Hp := (Entails.of_eq (rest_dma V c q)) $$ Hpay
  imod (Rounds.cell_close ER (sched V) (Set.mem_univ (K (c, i))) (fun h => h) (R := 0 + 1) (duties_later V ((c : Thread nD τ), .dma q))) $$ [Hat] with Hz
  · isplitr; · iapply (recs_inv V K c hi); iexact HR
    iexact Hat
  rw [wp_ret]; imodintro
  iapply HQ
  isplitl [HO]; · iexists _; iexact HO
  isplitl [Hz]; · iexact Hz
  iexact Hp

end Recs

/-! ## The computations -/

section Comp
variable (V : Operands F)

/-- The operands' staging buffers. -/
def ops (c : Dev nD) : sProp 𝕄 :=
  iprop((((c : Thread nD τ).loc cc0_stg0_0) ↦{fullShare} V.x c) ∗ (((c : Thread nD τ).loc cc0_stg1_0) ↦{fullShare} V.w1 c)
    ∗ (((c : Thread nD τ).loc cc0_stg2_0) ↦{fullShare} V.w2 c))

theorem comp_wp (c : Dev nD) (b : Memref sig .tc .vmem S16x32x1024 .f32) {r hr o ho} {j : ℕ} (er : r = ![32 * j, 0])
    {S : Finset (Idx ((b.access (Rect.unit (s := S16x32x1024) o S1x32x1024.size ho)).loc (c : Thread nD τ)))}
    {f : Buf (Elt F) ((b.access (Rect.unit (s := S16x32x1024) o S1x32x1024.size ho)).loc (c : Thread nD τ))}
    (hS : (b.access (Rect.unit (s := S16x32x1024) o S1x32x1024.size ho)).set ⊆ S) {g : Buf (Elt F) ((b.access (Rect.unit (s := S16x32x1024) o S1x32x1024.size ho)).loc (c : Thread nD τ))}
    (hg : ∀ i ∈ S, (b.access (Rect.unit (s := S16x32x1024) o S1x32x1024.size ho)).write (Elt F) f (k0_pay1 (rowsOf (V.x c) j) (V.w1 c) (V.w2 c)) Finset.univ i = g i) (Q : PUnit → sProp 𝕄) :
    iprop(ops V c ∗ ((b.access (Rect.unit (s := S16x32x1024) o S1x32x1024.size ho)).loc (c : Thread nD τ) ↦[S]{fullShare} f)
        ∗ ((ops V c ∗ ((b.access (Rect.unit (s := S16x32x1024) o S1x32x1024.size ho)).loc (c : Thread nD τ) ↦[S]{fullShare} g)) -∗ Q ⟨⟩))
      ⊢ run c (comp b r hr o ho) Q := by
  unfold ops run comp
  simp only [Prog.lift, Prog.bind_op, Prog.bind_ret, Prog.pure_eq_ret]
  iintro ⟨⟨Hx, H1, H2⟩, Hb, HQ⟩
  iapply (wp_load 𝒱₀ (c : Thread nD τ) none Set.univ (m := xM) (Finset.subset_univ _)) $$ Hx; iintro Hx
  rw [readX er]
  iapply (wp_load 𝒱₀ (c : Thread nD τ) none Set.univ (m := w1M) (Finset.subset_univ _)) $$ H1; iintro H1
  rw [readW1]
  iapply (wp_load 𝒱₀ (c : Thread nD τ) none Set.univ (m := w2M) (Finset.subset_univ _)) $$ H2; iintro H2
  rw [readW2]
  iapply (wp_load_rect 𝒱₀ (c : Thread nD τ) none Set.univ (m := b) hS) $$ Hb; iintro Hb
  iapply (wp_store 𝒱₀ (c : Thread nD τ) none Set.univ (m := b) (Mk := Finset.univ) hS) $$ Hb; iintro Hb
  rw [wp_ret]; imodintro
  iapply HQ
  isplitr [Hb]
  · isplitl [Hx]; · iexact Hx
    isplitl [H1] <;> iassumption
  iapply (Entails.of_eq (pointsTo_congr hg)); iexact Hb

theorem addIn_wp (c : Dev nD) (b : Memref sig .tc .vmem S16x32x1024 .f32) {o ho} (ld : Memref sig .tc .vmem S15x32x1024 .f32) (s : Fin 15)
    {S : Finset (Idx ((b.access (Rect.unit (s := S16x32x1024) o S1x32x1024.size ho)).loc (c : Thread nD τ)))}
    {f : Buf (Elt F) ((b.access (Rect.unit (s := S16x32x1024) o S1x32x1024.size ho)).loc (c : Thread nD τ))}
    {S' : Finset (Idx ((ld.access (Rect.unit (s := S15x32x1024) ![s.val, 0, 0] S1x32x1024.size (inbC s))).loc (c : Thread nD τ)))}
    {f' : Buf (Elt F) ((ld.access (Rect.unit (s := S15x32x1024) ![s.val, 0, 0] S1x32x1024.size (inbC s))).loc (c : Thread nD τ))}
    (hS : (b.access (Rect.unit (s := S16x32x1024) o S1x32x1024.size ho)).set ⊆ S)
    (hS' : (ld.access (Rect.unit (s := S15x32x1024) ![s.val, 0, 0] S1x32x1024.size (inbC s))).set ⊆ S')
    {p q : Vec F S1x32x1024 .f32} (hp : (b.access (Rect.unit (s := S16x32x1024) o S1x32x1024.size ho)).read (Elt F) f = p)
    (hq : (ld.access (Rect.unit (s := S15x32x1024) ![s.val, 0, 0] S1x32x1024.size (inbC s))).read (Elt F) f' = q)
    {g : Buf (Elt F) ((b.access (Rect.unit (s := S16x32x1024) o S1x32x1024.size ho)).loc (c : Thread nD τ))}
    (hg : ∀ i ∈ S, (b.access (Rect.unit (s := S16x32x1024) o S1x32x1024.size ho)).write (Elt F) f (k0_pay9 p q) Finset.univ i = g i) (Q : PUnit → sProp 𝕄) :
    iprop(((b.access (Rect.unit (s := S16x32x1024) o S1x32x1024.size ho)).loc (c : Thread nD τ) ↦[S]{fullShare} f)
        ∗ ((ld.access (Rect.unit (s := S15x32x1024) ![s.val, 0, 0] S1x32x1024.size (inbC s))).loc (c : Thread nD τ) ↦[S']{fullShare} f')
        ∗ ((((b.access (Rect.unit (s := S16x32x1024) o S1x32x1024.size ho)).loc (c : Thread nD τ) ↦[S]{fullShare} g)
            ∗ ((ld.access (Rect.unit (s := S15x32x1024) ![s.val, 0, 0] S1x32x1024.size (inbC s))).loc (c : Thread nD τ) ↦[S']{fullShare} f')) -∗ Q ⟨⟩))
      ⊢ run c (addIn b o ho ld s) Q := by
  unfold run addIn
  simp only [Prog.lift, Prog.bind_op, Prog.bind_ret, Prog.pure_eq_ret]
  iintro ⟨Hb, Hl, HQ⟩
  iapply (wp_load_rect 𝒱₀ (c : Thread nD τ) none Set.univ (m := b) hS) $$ Hb; iintro Hb
  rw [hp]
  iapply (wp_load_rect 𝒱₀ (c : Thread nD τ) none Set.univ (m := ld) hS') $$ Hl; iintro Hl
  rw [hq]
  iapply (wp_load_rect 𝒱₀ (c : Thread nD τ) none Set.univ (m := b) hS) $$ Hb; iintro Hb
  iapply (wp_store 𝒱₀ (c : Thread nD τ) none Set.univ (m := b) (Mk := Finset.univ) hS) $$ Hb; iintro Hb
  rw [wp_ret]; imodintro
  iapply HQ
  isplitl [Hb]
  · iapply (Entails.of_eq (pointsTo_congr hg)); iexact Hb
  iexact Hl

theorem putO_wp (c : Dev nD) (b : Memref sig .tc .vmem S16x32x1024 .f32) {o ho r hr}
    {S : Finset (Idx ((b.access (Rect.unit (s := S16x32x1024) o S1x32x1024.size ho)).loc (c : Thread nD τ)))}
    {f : Buf (Elt F) ((b.access (Rect.unit (s := S16x32x1024) o S1x32x1024.size ho)).loc (c : Thread nD τ))}
    {S' : Finset IO} {f' : IO → Elt F .f32}
    (hS : (b.access (Rect.unit (s := S16x32x1024) o S1x32x1024.size ho)).set ⊆ S)
    (hS' : (oM.access (Rect.unit (s := S1024x1024) r S32x1024.size hr)).set ⊆ S')
    {p : Vec F S1x32x1024 .f32} (hp : (b.access (Rect.unit (s := S16x32x1024) o S1x32x1024.size ho)).read (Elt F) f = p) {g : IO → Elt F .f32}
    (hg : ∀ i ∈ S', (oM.access (Rect.unit (s := S1024x1024) r S32x1024.size hr)).write (Elt F) f' (k0_pay83 p) Finset.univ i = g i) (Q : PUnit → sProp 𝕄) :
    iprop(((b.access (Rect.unit (s := S16x32x1024) o S1x32x1024.size ho)).loc (c : Thread nD τ) ↦[S]{fullShare} f) ∗ outP c S' f'
        ∗ ((((b.access (Rect.unit (s := S16x32x1024) o S1x32x1024.size ho)).loc (c : Thread nD τ) ↦[S]{fullShare} f)
            ∗ outP c S' g) -∗ Q ⟨⟩))
      ⊢ run c (putO b o ho r hr) Q := by
  unfold run putO
  simp only [Prog.lift, Prog.bind_op, Prog.bind_ret, Prog.pure_eq_ret]
  iintro ⟨Hb, Hl, HQ⟩
  iapply (wp_load_rect 𝒱₀ (c : Thread nD τ) none Set.univ (m := b) hS) $$ Hb; iintro Hb
  rw [hp]
  iapply (wp_load_rect 𝒱₀ (c : Thread nD τ) none Set.univ (m := oM) hS') $$ Hl; iintro Hl
  iapply (wp_store 𝒱₀ (c : Thread nD τ) none Set.univ (m := oM) (Mk := Finset.univ) hS') $$ Hl; iintro Hl
  rw [wp_ret]; imodintro
  iapply HQ
  isplitl [Hb]; · iexact Hb
  iapply (Entails.of_eq (pointsTo_congr hg)); iexact Hl
end Comp

end Cert.KernelIdealProof

end
-- ==== Proof.Moves.lean ====
/-
# The pieces with their contents

Each piece of a step at device `c`, top half then bottom half: what it takes of the buffers, and what they hold afterwards.
-/
module

public import proofs.«01_k».proof.Proof.Pieces

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Chunks and halves -/

theorem chunk_lt (i : IO) : chunk i < 16 := by
  have h : (i 0).val < 1024 := (i 0).isLt
  unfold chunk; omega
theorem chunk_half (i : IO) : chunk i = half i / 2 := by unfold chunk half; omega
theorem ring_behind (c : Dev nD) : ring (behind c 15 + 15) = c := by revert c; decide +kernel
theorem ring_ahead (c : Dev nD) : ring (ahead c 15 + 1) = c := by revert c; decide +kernel

variable (V : Operands F) (K : Dev nD × Fin 121 → ℕ)

/-! ## Top half -/

theorem setT_one (c : Dev nD) {k : ℕ} (hk : k < 16) : setT c (fun j => j = k) = fil fun i : I16 => (i 0).val = behind c k :=
  fil_congr fun i => (eq_behind_iff c (i 0).isLt hk).symm

/-- Chunk `behind c k` computed into its slot. -/
theorem compT (c : Dev nD) {k : ℕ} (hk : k < 16) {r hr o ho} (er : r = ![32 * (2 * behind c k), 0]) (eo : o = ![behind c k, 0, 0]) (Q : PUnit → sProp 𝕄) :
    iprop(ops V c ∗ (∃ f, ptT c (setT c fun j => j = k) f) ∗ ((ops V c ∗ ptT c (setT c fun j => j = k) (prodT V c)) -∗ Q ⟨⟩))
      ⊢ run c (comp ptM r hr o ho) Q := by
  iintro ⟨Ho, ⟨%f, Hb⟩, HQ⟩
  iapply (comp_wp V c ptM (r := r) (hr := hr) (o := o) (ho := ho) er (S := setT c fun j => j = k) (f := f) (by rw [set_ptM eo, setT_one c hk])
    (g := prodT V c) (fun i hi => by
      rw [setT_one c hk, mem_fil] at hi
      rw [storeT eo f _ i hi, prodT, hi, partT]) Q)
  isplitl [Ho]; · iexact Ho
  isplitl [Hb]; · iexact Hb
  iintro ⟨Ho, Hb⟩
  iapply HQ
  isplitl [Ho]; · iexact Ho
  iexact Hb

/-- The landed slot added. -/
theorem addT (c : Dev nD) (s : Fin 15) {o ho} (eo : o = ![behind c (s.val + 1), 0, 0]) (Q : PUnit → sProp 𝕄) :
    iprop(ptT c (setT c fun j => j = s.val + 1) (prodT V c) ∗ ctT c (setC fun j => j = s.val) (landT V c)
        ∗ ((ptT c (setT c fun j => j = s.val + 1) (sumT V c) ∗ ctT c (setC fun j => j = s.val) (landT V c)) -∗ Q ⟨⟩))
      ⊢ run c (addIn ptM o ho ctM s) Q := by
  have hk : s.val + 1 < 16 := by omega
  iintro ⟨Hb, Hl, HQ⟩
  iapply (addIn_wp c ptM (o := o) (ho := ho) ctM s (S := setT c fun j => j = s.val + 1) (S' := setC fun j => j = s.val) (f := prodT V c) (f' := landT V c)
    (by rw [set_ptM eo, setT_one c hk]) (by rw [set_ctM s]; exact fun _ h => h)
    (readT eo (g := partT V c (behind c (s.val + 1))) (fun i hi => by rw [prodT, hi]))
    (readCT s (g := accT V s.val (left c)) (fun i hi => by rw [landT, hi]))
    (g := sumT V c) (fun i hi => by
      rw [setT_one c hk, mem_fil] at hi
      rw [storeT eo _ _ i hi, sumT, (eq_behind_iff c (i 0).isLt hk).mp hi, accT]) Q)
  isplitl [Hb]; · iexact Hb
  isplitl [Hl]; · iexact Hl
  iintro ⟨Hb, Hl⟩
  iapply HQ
  isplitl [Hb] <;> iassumption

/-- The copy of a slot to the neighbour's landing slot. -/
theorem sendT (c n : Dev nD) (hn : n = right c) (s : Fin 15) (l : List (Fin 4 × Fin 15)) {o ho} (eo : o = ![behind c s.val, 0, 0]) (Q : PUnit → sProp 𝕄) :
    iprop(recs V K ∗ ptT c (setT c fun j => j = s.val) (sumT V c) ∗ (∃ f, ctT (right c) (setC fun j => j = s.val) f)
        ∗ ow c ((0, s) :: l) ∗ dutyTok ER (sndC c 0 s) 0 false ∗ dutyTok ER (rcvC (fwd 0 c) 0 s) 0 false
        ∗ ((cred (tallyAt (sndC c 0 s) () N) ∗ ow c l) -∗ Q ⟨⟩))
      ⊢ run c (sendP ptM o ho ctM s n (semAt cc0_scratch4 s) (semAt cc0_scratch5 s)) Q := by
  have hk : s.val < 16 := by omega
  iintro ⟨#HR, Hb, ⟨%fd, Hl⟩, HO, Ht1, Ht2, HQ⟩
  iapply (send_wp V K c n 0 s hn l (src := slotP ptM o ho) (dst := slotC ctM s) (sumT V c) fd (N_ctM s)
    (by rw [set_slotPT eo, ← setT_one c hk]; exact Entails.of_eq rfl)
    (by
      subst hn
      refine Entails.of_eq ?_
      rw [set_slotCT s]
      exact pointsTo_congr (fun i hi => by
        rw [mem_fil] at hi
        have hi' : (i 0).val = s.val := hi
        rw [copyT eo s (g := accT V s.val c) (fun j hj => by rw [sumT, (eq_behind_iff c (j 0).isLt hk).mp hj]) fd i hi, landT, hi', left_right])) Q)
  isplitr; · iexact HR
  isplitl [Hb]
  · rw [set_slotPT eo, ← setT_one c hk]; iexact Hb
  isplitl [Hl]
  · subst hn; rw [set_slotCT s]; iexact Hl
  isplitl [HO]; · iexact HO
  isplitl [Ht1]; · iexact Ht1
  isplitl [Ht2]; · iexact Ht2
  iexact HQ

theorem outT_one (c : Dev nD) {k : ℕ} (hk : k < 16) : outT c (fun j => j = k) = fil fun i : IO => half i = 2 * behind c k :=
  fil_congr fun i => by
    have h1 := eq_behind_iff c (chunk_lt i) hk
    have h2 := chunk_half i
    constructor
    · rintro ⟨a, b⟩; have := h1.mpr b; omega
    · intro a; refine ⟨by omega, h1.mp (by omega)⟩

/-- The finished slot put into the result. -/
theorem putT (c : Dev nD) {o ho r hr} (eo : o = ![behind c 15, 0, 0]) (er : r = ![32 * (2 * behind c 15), 0]) (Q : PUnit → sProp 𝕄) :
    iprop(ptT c (setT c fun j => j ≤ 15) (sumT V c) ∗ (∃ f, outP c (outT c fun j => j = 15) f)
        ∗ ((ptT c (setT c fun j => j ≤ 15) (sumT V c) ∗ outP c (outT c fun j => j = 15) (res V)) -∗ Q ⟨⟩))
      ⊢ run c (putO ptM o ho r hr) Q := by
  iintro ⟨Hb, ⟨%f, Hl⟩, HQ⟩
  iapply (putO_wp c ptM (o := o) (ho := ho) (r := r) (hr := hr) (S := setT c fun j => j ≤ 15) (S' := outT c fun j => j = 15) (f := sumT V c) (f' := f)
    (by rw [set_ptM eo, ← setT_one c (by omega)]; intro i hi; rw [setT, mem_fil] at hi ⊢; exact le_of_eq hi)
    (by rw [set_oM er, outT_one c (by omega)])
    (readT eo (g := accT V 15 c) (fun i hi => by rw [sumT, (eq_behind_iff c (i 0).isLt (by omega)).mp hi]))
    (g := res V) (fun i hi => by
      rw [outT_one c (by omega), mem_fil] at hi
      have h2 := chunk_half i
      have h3 : chunk i = behind c 15 := by omega
      rw [storeO er f _ i hi, res, if_pos (by omega), h3, ring_behind]) Q)
  isplitl [Hb]; · iexact Hb
  isplitl [Hl]; · iexact Hl
  iintro ⟨Hb, Hl⟩
  iapply HQ
  isplitl [Hb] <;> iassumption

/-- Finished rows sent on. -/
theorem sendOT (c n : Dev nD) (hn : n = right c) (t : Fin 15) (l : List (Fin 4 × Fin 15)) {r hr} (er : r = ![32 * (2 * behind (right c) t.val), 0]) (Q : PUnit → sProp 𝕄) :
    iprop(recs V K ∗ outP c (outT c fun j => j = (t.val + 15) % 16) (res V) ∗ (∃ f, outP (right c) (outT (right c) fun j => j = t.val) f)
        ∗ ow c ((2, t) :: l) ∗ dutyTok ER (sndC c 2 t) 0 false ∗ dutyTok ER (rcvC (fwd 2 c) 2 t) 0 false
        ∗ ((cred (tallyAt (sndC c 2 t) () N) ∗ ow c l) -∗ Q ⟨⟩))
      ⊢ run c (sendO r hr n (semAt cc0_scratch8 t) (semAt cc0_scratch9 t)) Q := by
  have hk : t.val < 16 := by omega
  have hset : outT c (fun j => j = (t.val + 15) % 16) = fil fun i : IO => half i = 2 * behind (right c) t.val := by
    rw [← outT_one (right c) hk]
    exact fil_congr fun i => by
      rw [ageT_right c (chunk_lt i)]
      have := ageT_lt c (chunk i)
      constructor
      · rintro ⟨a, b⟩; exact ⟨a, by omega⟩
      · rintro ⟨a, b⟩; exact ⟨a, by omega⟩
  iintro ⟨#HR, Hb, ⟨%fd, Hl⟩, HO, Ht1, Ht2, HQ⟩
  iapply (send_wp V K c n 2 t hn l (src := rowsO r hr) (dst := rowsO r hr) (res V) fd (N_out r hr)
    (by rw [set_rowsO er, ← hset]; exact Entails.of_eq rfl)
    (by
      subst hn
      refine Entails.of_eq ?_
      rw [set_rowsO er, ← outT_one (right c) hk]
      exact pointsTo_congr (fun i hi => by
        rw [outT_one (right c) hk, mem_fil] at hi
        exact copyO er (res V) fd i hi)) Q)
  isplitr; · iexact HR
  isplitl [Hb]
  · rw [set_rowsO er, ← hset]; iexact Hb
  isplitl [Hl]
  · subst hn; rw [set_rowsO er, ← outT_one (right c) hk]; iexact Hl
  isplitl [HO]; · iexact HO
  isplitl [Ht1]; · iexact Ht1
  isplitl [Ht2]; · iexact Ht2
  iexact HQ

/-! ## Bottom half -/

theorem setB_one (c : Dev nD) {k : ℕ} (hk : k < 16) : setB c (fun j => j = k) = fil fun i : I16 => (i 0).val = ahead c k :=
  fil_congr fun i => (eq_ahead_iff c (i 0).isLt hk).symm

/-- Chunk `ahead c k` computed into its slot. -/
theorem compB (c : Dev nD) {k : ℕ} (hk : k < 16) {r hr o ho} (er : r = ![32 * (2 * ahead c k + 1), 0]) (eo : o = ![ahead c k, 0, 0]) (Q : PUnit → sProp 𝕄) :
    iprop(ops V c ∗ (∃ f, ptB c (setB c fun j => j = k) f) ∗ ((ops V c ∗ ptB c (setB c fun j => j = k) (prodB V c)) -∗ Q ⟨⟩))
      ⊢ run c (comp pbM r hr o ho) Q := by
  iintro ⟨Ho, ⟨%f, Hb⟩, HQ⟩
  iapply (comp_wp V c pbM (r := r) (hr := hr) (o := o) (ho := ho) er (S := setB c fun j => j = k) (f := f) (by rw [set_pbM eo, setB_one c hk])
    (g := prodB V c) (fun i hi => by
      rw [setB_one c hk, mem_fil] at hi
      rw [storeB eo f _ i hi, prodB, hi, partB]) Q)
  isplitl [Ho]; · iexact Ho
  isplitl [Hb]; · iexact Hb
  iintro ⟨Ho, Hb⟩
  iapply HQ
  isplitl [Ho]; · iexact Ho
  iexact Hb

/-- The landed slot added. -/
theorem addB (c : Dev nD) (s : Fin 15) {o ho} (eo : o = ![ahead c (s.val + 1), 0, 0]) (Q : PUnit → sProp 𝕄) :
    iprop(ptB c (setB c fun j => j = s.val + 1) (prodB V c) ∗ ctB c (setC fun j => j = s.val) (landB V c)
        ∗ ((ptB c (setB c fun j => j = s.val + 1) (sumB V c) ∗ ctB c (setC fun j => j = s.val) (landB V c)) -∗ Q ⟨⟩))
      ⊢ run c (addIn pbM o ho cbM s) Q := by
  have hk : s.val + 1 < 16 := by omega
  iintro ⟨Hb, Hl, HQ⟩
  iapply (addIn_wp c pbM (o := o) (ho := ho) cbM s (S := setB c fun j => j = s.val + 1) (S' := setC fun j => j = s.val) (f := prodB V c) (f' := landB V c)
    (by rw [set_pbM eo, setB_one c hk]) (by rw [set_cbM s]; exact fun _ h => h)
    (readB eo (g := partB V c (ahead c (s.val + 1))) (fun i hi => by rw [prodB, hi]))
    (readCB s (g := accB V s.val (right c)) (fun i hi => by rw [landB, hi]))
    (g := sumB V c) (fun i hi => by
      rw [setB_one c hk, mem_fil] at hi
      rw [storeB eo _ _ i hi, sumB, (eq_ahead_iff c (i 0).isLt hk).mp hi, accB]) Q)
  isplitl [Hb]; · iexact Hb
  isplitl [Hl]; · iexact Hl
  iintro ⟨Hb, Hl⟩
  iapply HQ
  isplitl [Hb] <;> iassumption

/-- The copy of a slot to the neighbour's landing slot. -/
theorem sendB (c n : Dev nD) (hn : n = left c) (s : Fin 15) (l : List (Fin 4 × Fin 15)) {o ho} (eo : o = ![ahead c s.val, 0, 0]) (Q : PUnit → sProp 𝕄) :
    iprop(recs V K ∗ ptB c (setB c fun j => j = s.val) (sumB V c) ∗ (∃ f, ctB (left c) (setC fun j => j = s.val) f)
        ∗ ow c ((1, s) :: l) ∗ dutyTok ER (sndC c 1 s) 0 false ∗ dutyTok ER (rcvC (fwd 1 c) 1 s) 0 false
        ∗ ((cred (tallyAt (sndC c 1 s) () N) ∗ ow c l) -∗ Q ⟨⟩))
      ⊢ run c (sendP pbM o ho cbM s n (semAt cc0_scratch6 s) (semAt cc0_scratch7 s)) Q := by
  have hk : s.val < 16 := by omega
  iintro ⟨#HR, Hb, ⟨%fd, Hl⟩, HO, Ht1, Ht2, HQ⟩
  iapply (send_wp V K c n 1 s hn l (src := slotP pbM o ho) (dst := slotC cbM s) (sumB V c) fd (N_cbM s)
    (by rw [set_slotPB eo, ← setB_one c hk]; exact Entails.of_eq rfl)
    (by
      subst hn
      refine Entails.of_eq ?_
      rw [set_slotCB s]
      exact pointsTo_congr (fun i hi => by
        rw [mem_fil] at hi
        have hi' : (i 0).val = s.val := hi
        rw [copyB eo s (g := accB V s.val c) (fun j hj => by rw [sumB, (eq_ahead_iff c (j 0).isLt hk).mp hj]) fd i hi, landB, hi', right_left])) Q)
  isplitr; · iexact HR
  isplitl [Hb]
  · rw [set_slotPB eo, ← setB_one c hk]; iexact Hb
  isplitl [Hl]
  · subst hn; rw [set_slotCB s]; iexact Hl
  isplitl [HO]; · iexact HO
  isplitl [Ht1]; · iexact Ht1
  isplitl [Ht2]; · iexact Ht2
  iexact HQ

theorem outB_one (c : Dev nD) {k : ℕ} (hk : k < 16) : outB c (fun j => j = k) = fil fun i : IO => half i = 2 * ahead c k + 1 :=
  fil_congr fun i => by
    have h1 := eq_ahead_iff c (chunk_lt i) hk
    have h2 := chunk_half i
    constructor
    · rintro ⟨a, b⟩; have := h1.mpr b; omega
    · intro a; refine ⟨by omega, h1.mp (by omega)⟩

/-- The finished slot put into the result. -/
theorem putB (c : Dev nD) {o ho r hr} (eo : o = ![ahead c 15, 0, 0]) (er : r = ![32 * (2 * ahead c 15 + 1), 0]) (Q : PUnit → sProp 𝕄) :
    iprop(ptB c (setB c fun j => j ≤ 15) (sumB V c) ∗ (∃ f, outP c (outB c fun j => j = 15) f)
        ∗ ((ptB c (setB c fun j => j ≤ 15) (sumB V c) ∗ outP c (outB c fun j => j = 15) (res V)) -∗ Q ⟨⟩))
      ⊢ run c (putO pbM o ho r hr) Q := by
  iintro ⟨Hb, ⟨%f, Hl⟩, HQ⟩
  iapply (putO_wp c pbM (o := o) (ho := ho) (r := r) (hr := hr) (S := setB c fun j => j ≤ 15) (S' := outB c fun j => j = 15) (f := sumB V c) (f' := f)
    (by rw [set_pbM eo, ← setB_one c (by omega)]; intro i hi; rw [setB, mem_fil] at hi ⊢; exact le_of_eq hi)
    (by rw [set_oM er, outB_one c (by omega)])
    (readB eo (g := accB V 15 c) (fun i hi => by rw [sumB, (eq_ahead_iff c (i 0).isLt (by omega)).mp hi]))
    (g := res V) (fun i hi => by
      rw [outB_one c (by omega), mem_fil] at hi
      have h2 := chunk_half i
      have h3 : chunk i = ahead c 15 := by omega
      rw [storeO er f _ i hi, res, if_neg (by omega), h3, ring_ahead]) Q)
  isplitl [Hb]; · iexact Hb
  isplitl [Hl]; · iexact Hl
  iintro ⟨Hb, Hl⟩
  iapply HQ
  isplitl [Hb] <;> iassumption

/-- Finished rows sent on. -/
theorem sendOB (c n : Dev nD) (hn : n = left c) (t : Fin 15) (l : List (Fin 4 × Fin 15)) {r hr} (er : r = ![32 * (2 * ahead (left c) t.val + 1), 0]) (Q : PUnit → sProp 𝕄) :
    iprop(recs V K ∗ outP c (outB c fun j => j = (t.val + 15) % 16) (res V) ∗ (∃ f, outP (left c) (outB (left c) fun j => j = t.val) f)
        ∗ ow c ((3, t) :: l) ∗ dutyTok ER (sndC c 3 t) 0 false ∗ dutyTok ER (rcvC (fwd 3 c) 3 t) 0 false
        ∗ ((cred (tallyAt (sndC c 3 t) () N) ∗ ow c l) -∗ Q ⟨⟩))
      ⊢ run c (sendO r hr n (semAt cc0_scratch10 t) (semAt cc0_scratch11 t)) Q := by
  have hk : t.val < 16 := by omega
  have hset : outB c (fun j => j = (t.val + 15) % 16) = fil fun i : IO => half i = 2 * ahead (left c) t.val + 1 := by
    rw [← outB_one (left c) hk]
    exact fil_congr fun i => by
      rw [ageB_left c (chunk_lt i)]
      have := ageB_lt c (chunk i)
      constructor
      · rintro ⟨a, b⟩; exact ⟨a, by omega⟩
      · rintro ⟨a, b⟩; exact ⟨a, by omega⟩
  iintro ⟨#HR, Hb, ⟨%fd, Hl⟩, HO, Ht1, Ht2, HQ⟩
  iapply (send_wp V K c n 3 t hn l (src := rowsO r hr) (dst := rowsO r hr) (res V) fd (N_out r hr)
    (by rw [set_rowsO er, ← hset]; exact Entails.of_eq rfl)
    (by
      subst hn
      refine Entails.of_eq ?_
      rw [set_rowsO er, ← outB_one (left c) hk]
      exact pointsTo_congr (fun i hi => by
        rw [outB_one (left c) hk, mem_fil] at hi
        exact copyO er (res V) fd i hi)) Q)
  isplitr; · iexact HR
  isplitl [Hb]
  · rw [set_rowsO er, ← hset]; iexact Hb
  isplitl [Hl]
  · subst hn; rw [set_rowsO er, ← outB_one (left c) hk]; iexact Hl
  isplitl [HO]; · iexact HO
  isplitl [Ht1]; · iexact Ht1
  isplitl [Ht2]; · iexact Ht2
  iexact HQ

end Cert.KernelIdealProof

end
-- ==== Proof.Rings.lean ====
/-
# The steps of the two rings

A reduce step and a gather step at device `c`, each from its invariant to the next one's.
-/
module

public import proofs.«01_k».proof.Proof.Moves

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting a held set in two -/

theorem fil_union {α : Type} [Fintype α] [DecidableEq α] {p p1 p2 : α → Prop} (h : ∀ i, p i ↔ p1 i ∨ p2 i) : fil p = fil p1 ∪ fil p2 := by
  ext i; rw [Finset.mem_union, mem_fil, mem_fil, mem_fil]; exact h i
theorem fil_disj {α : Type} [Fintype α] {p1 p2 : α → Prop} (h : ∀ i, p1 i → ¬ p2 i) : Disjoint (fil p1) (fil p2) :=
  Finset.disjoint_left.mpr fun i h1 h2 => h i (mem_fil.mp h1) (mem_fil.mp h2)

section Cut
variable {p p1 p2 : ℕ → Prop}

theorem cutT (c : Dev nD) (h : ∀ k < 16, (p k ↔ p1 k ∨ p2 k) ∧ (p1 k → ¬ p2 k)) (f : I16 → Elt F .f32) :
    ptT c (setT c p) f ⊣⊢ iprop(ptT c (setT c p1) f ∗ ptT c (setT c p2) f) := by
  rw [show setT c p = setT c p1 ∪ setT c p2 from fil_union fun i => (h _ (ageT_lt c _)).1]
  exact pointsTo_union (fil_disj fun i => (h _ (ageT_lt c _)).2)
theorem cutB (c : Dev nD) (h : ∀ k < 16, (p k ↔ p1 k ∨ p2 k) ∧ (p1 k → ¬ p2 k)) (f : I16 → Elt F .f32) :
    ptB c (setB c p) f ⊣⊢ iprop(ptB c (setB c p1) f ∗ ptB c (setB c p2) f) := by
  rw [show setB c p = setB c p1 ∪ setB c p2 from fil_union fun i => (h _ (ageB_lt c _)).1]
  exact pointsTo_union (fil_disj fun i => (h _ (ageB_lt c _)).2)
theorem cutCT (c : Dev nD) (h : ∀ k < 15, (p k ↔ p1 k ∨ p2 k) ∧ (p1 k → ¬ p2 k)) (f : I15 → Elt F .f32) :
    ctT c (setC p) f ⊣⊢ iprop(ctT c (setC p1) f ∗ ctT c (setC p2) f) := by
  rw [show setC p = setC p1 ∪ setC p2 from fil_union fun i => (h _ (i 0).isLt).1]
  exact pointsTo_union (fil_disj fun i => (h _ (i 0).isLt).2)
theorem cutCB (c : Dev nD) (h : ∀ k < 15, (p k ↔ p1 k ∨ p2 k) ∧ (p1 k → ¬ p2 k)) (f : I15 → Elt F .f32) :
    ctB c (setC p) f ⊣⊢ iprop(ctB c (setC p1) f ∗ ctB c (setC p2) f) := by
  rw [show setC p = setC p1 ∪ setC p2 from fil_union fun i => (h _ (i 0).isLt).1]
  exact pointsTo_union (fil_disj fun i => (h _ (i 0).isLt).2)
theorem cutOT (c : Dev nD) (h : ∀ k < 16, (p k ↔ p1 k ∨ p2 k) ∧ (p1 k → ¬ p2 k)) (f : IO → Elt F .f32) :
    outP c (outT c p) f ⊣⊢ iprop(outP c (outT c p1) f ∗ outP c (outT c p2) f) := by
  rw [show outT c p = outT c p1 ∪ outT c p2 from fil_union fun i => by have := (h _ (ageT_lt c (chunk i))).1; tauto]
  exact pointsTo_union (fil_disj fun i => by have := (h _ (ageT_lt c (chunk i))).2; tauto)
theorem cutOB (c : Dev nD) (h : ∀ k < 16, (p k ↔ p1 k ∨ p2 k) ∧ (p1 k → ¬ p2 k)) (f : IO → Elt F .f32) :
    outP c (outB c p) f ⊣⊢ iprop(outP c (outB c p1) f ∗ outP c (outB c p2) f) := by
  rw [show outB c p = outB c p1 ∪ outB c p2 from fil_union fun i => by have := (h _ (ageB_lt c (chunk i))).1; tauto]
  exact pointsTo_union (fil_disj fun i => by have := (h _ (ageB_lt c (chunk i))).2; tauto)
end Cut

/-! ## Lists of steps -/

/-- One resource for each entry of a list. -/
def seps {ι : Type} (Φ : ι → sProp 𝕄) : List ι → sProp 𝕄
  | [] => iprop(emp)
  | i :: l => iprop(Φ i ∗ seps Φ l)

/-- A list of consecutive steps. -/
def From : ℕ → List (Fin 15) → Prop
  | _, [] => True
  | k, s :: l => s.val = k ∧ From (k + 1) l

/-- A loop by its invariant: each step takes its own resources and leaves its own results. -/
theorem steps_wp (c : Dev nD) (f : Fin 15 → P (F := F) PUnit) (I : ℕ → sProp 𝕄) (T D : Fin 15 → sProp 𝕄) (l : List (Fin 15))
    (hf : ∀ s ∈ l, ∀ Q : PUnit → sProp 𝕄, iprop(I s.val ∗ T s ∗ ((I (s.val + 1) ∗ D s) -∗ Q ⟨⟩)) ⊢ run c (f s) Q) :
    ∀ k, From k l → ∀ Q : PUnit → sProp 𝕄, iprop(I k ∗ seps T l ∗ ((I (k + l.length) ∗ seps D l) -∗ Q ⟨⟩)) ⊢ run c (steps f l) Q := by
  induction l with
  | nil =>
    intro k _ Q
    unfold steps run seps
    rw [Prog.pure_eq_ret, wp_ret]
    iintro ⟨HI, -, HQ⟩
    imodintro
    iapply HQ
    isplitl [HI]; · iexact HI
    iempintro
  | cons s l ih =>
    intro k hk Q
    obtain ⟨rfl, hl⟩ := hk
    unfold steps run
    rw [wp_bind, show seps T (s :: l) = iprop(T s ∗ seps T l) from rfl, show seps D (s :: l) = iprop(D s ∗ seps D l) from rfl]
    iintro ⟨HI, ⟨HT, HTs⟩, HQ⟩
    iapply (hf s List.mem_cons_self (fun _ => wp frame (wpE (defs₀ (F := F)) 𝒱₀ (c : Thread nD τ) none) Set.univ (steps f l) Q))
    isplitl [HI]; · iexact HI
    isplitl [HT]; · iexact HT
    iintro ⟨HI, HD⟩
    iapply (ih (fun s hs => hf s (List.mem_cons_of_mem _ hs)) (s.val + 1) hl Q)
    isplitl [HI]; · iexact HI
    isplitl [HTs]; · iexact HTs
    iintro ⟨HI, HDs⟩
    iapply HQ
    isplitl [HI]
    · rw [List.length_cons, Nat.add_comm l.length 1, ← Nat.add_assoc]; iexact HI
    isplitl [HD] <;> iassumption

/-! ## What a copy takes and leaves -/

/-- Device `c`'s part of the copy `ws`: its two cells unread, the duty of its own cell and of the neighbour's, and the credit for its own. -/
def tk (c : Dev nD) (ws : Fin 4 × Fin 15) : sProp 𝕄 :=
  iprop(atPos ER (sndC c ws.1 ws.2) 0 ∅ 0 ∗ atPos ER (rcvC c ws.1 ws.2) 0 ∅ 0
    ∗ dutyTok ER (sndC c ws.1 ws.2) 0 false ∗ dutyTok ER (rcvC (fwd ws.1 c) ws.1 ws.2) 0 false ∗ cred (tallyAt (rcvC c ws.1 ws.2) () N))
/-- Both cells done with. -/
def dn (c : Dev nD) (ws : Fin 4 × Fin 15) : sProp 𝕄 := iprop(semVal (sndC c ws.1 ws.2) 0 ∗ semVal (rcvC c ws.1 ws.2) 0)

/-- The copies still owed before reduce step `k`, before gather step `k`. -/
def copiesR (k : ℕ) : List (Fin 4 × Fin 15) := rsL (allSteps.drop k) ++ agL allSteps
def copiesG (k : ℕ) : List (Fin 4 × Fin 15) := agL (allSteps.drop k)
theorem copiesR_step (s : Fin 15) : copiesR s.val = (0, s) :: (1, s) :: copiesR (s.val + 1) := by revert s; decide +kernel
theorem copiesG_step (s : Fin 15) : copiesG s.val = (2, s) :: (3, s) :: copiesG (s.val + 1) := by revert s; decide +kernel
theorem copiesR_lev (w : Fin 4) (hw : w.val < 2) (s : Fin 15) : ∀ ws ∈ copiesR (s.val + 1), copyLevel (w, s) < copyLevel ws := by revert w s; decide +kernel
theorem copiesG_lev (w : Fin 4) (s : Fin 15) : ∀ ws ∈ copiesG (s.val + 1), copyLevel (w, s) < copyLevel ws := by revert w s; decide +kernel
theorem copyLevel_pos (ws : Fin 4 × Fin 15) : 0 < copyLevel ws := by unfold copyLevel; split <;> omega

variable (V : Operands F) (K : Dev nD × Fin 121 → ℕ)

/-- A copy's two waits. -/
theorem waits_wp (c : Dev nD) (w : Fin 4) (s : Fin 15) (l : List (Fin 4 × Fin 15)) (hl : ∀ ws ∈ l, copyLevel (w, s) < copyLevel ws)
    {src dst src' dst' : Memref sig .tc .vmem S32x1024 .f32} {h1 : src.view.WordExact} {h2 : dst.view.WordExact} {h1' : src'.view.WordExact} {h2' : dst'.view.WordExact}
    (hN : dst.view.dmaCredit = N) (hN' : dst'.view.dmaCredit = N) (Q : PUnit → sProp 𝕄) :
    iprop(recs V K ∗ cred (tallyAt (sndC c w s) () N) ∗ cred (tallyAt (rcvC c w s) () N) ∗ atPos ER (sndC c w s) 0 ∅ 0 ∗ atPos ER (rcvC c w s) 0 ∅ 0 ∗ ow c l
        ∗ ((ow c l ∗ dn c (w, s) ∗ wirePay V c s.val w.val false ∗ wirePay V c s.val w.val true) -∗ Q ⟨⟩))
      ⊢ run c (do Prog.lift (.waitDma2 (sndS w s) src dst h1 h2); Prog.lift (.waitDma2 (rcvS w s) src' dst' h1' h2')) Q := by
  unfold run dn
  rw [wp_bind]
  iintro ⟨#HR, Hc1, Hc2, Ha1, Ha2, HO, HQ⟩
  iapply (wait_wp V K c (sndS w s) (csem_iS w s) l (fun ws _ => by rw [level_snd]; exact copyLevel_pos ws) hN
    (fun _ => wp frame (wpE (defs₀ (F := F)) 𝒱₀ (c : Thread nD τ) none) Set.univ (Prog.lift (.waitDma2 (rcvS w s) src' dst' h1' h2')) Q))
  isplitr; · iexact HR
  isplitl [Hc1]; · iexact Hc1
  isplitl [HO]; · iexact HO
  isplitl [Ha1]; · iexact Ha1
  iintro ⟨HO, Hz1, Hp1⟩
  iapply (wait_wp V K c (rcvS w s) (csem_iR w s) l (fun ws h => by rw [level_rcv]; exact hl ws h) hN' Q)
  isplitr; · iexact HR
  isplitl [Hc2]; · iexact Hc2
  isplitl [HO]; · iexact HO
  isplitl [Ha2]; · iexact Ha2
  iintro ⟨HO, Hz2, Hp2⟩
  iapply HQ
  isplitl [HO]; · iexact HO
  isplitl [Hz1 Hz2]
  · isplitl [Hz1] <;> iassumption
  isplitl [Hp1]
  · iapply (Entails.of_eq (pay_snd V c w s false)); iexact Hp1
  iapply (Entails.of_eq (pay_rcv V c w s false)); iexact Hp2

/-! ## A reduce step -/

theorem got0 (c : Dev nD) (s : ℕ) : iprop(wirePay V c s (0 : Fin 4).val false ∗ wirePay V c s (0 : Fin 4).val true)
    ⊢ iprop(ptT c (setT c fun j => j = s) (sumT V c) ∗ ctT c (setC fun j => j = s) (landT V c)) := Entails.of_eq rfl
theorem got1 (c : Dev nD) (s : ℕ) : iprop(wirePay V c s (1 : Fin 4).val false ∗ wirePay V c s (1 : Fin 4).val true)
    ⊢ iprop(ptB c (setB c fun j => j = s) (sumB V c) ∗ ctB c (setC fun j => j = s) (landB V c)) := Entails.of_eq rfl
theorem got2 (c : Dev nD) (s : ℕ) : iprop(wirePay V c s (2 : Fin 4).val false ∗ wirePay V c s (2 : Fin 4).val true)
    ⊢ iprop(outP c (outT c fun j => j = (s + 15) % 16) (res V) ∗ outP c (outT c fun j => j = s) (res V)) := Entails.of_eq rfl
theorem got3 (c : Dev nD) (s : ℕ) : iprop(wirePay V c s (3 : Fin 4).val false ∗ wirePay V c s (3 : Fin 4).val true)
    ⊢ iprop(outP c (outB c fun j => j = (s + 15) % 16) (res V) ∗ outP c (outB c fun j => j = s) (res V)) := Entails.of_eq rfl

theorem rsSend_wp (c : Dev nD) (s : Fin 15) (Q : PUnit → sProp 𝕄) :
    iprop(recs V K ∗ ptT c (setT c fun j => j = s.val) (sumT V c) ∗ (∃ f, ctT (right c) (setC fun j => j = s.val) f)
        ∗ ptB c (setB c fun j => j = s.val) (sumB V c) ∗ (∃ f, ctB (left c) (setC fun j => j = s.val) f) ∗ ow c (copiesR s.val)
        ∗ dutyTok ER (sndC c 0 s) 0 false ∗ dutyTok ER (rcvC (fwd 0 c) 0 s) 0 false ∗ dutyTok ER (sndC c 1 s) 0 false ∗ dutyTok ER (rcvC (fwd 1 c) 1 s) 0 false
        ∗ ((cred (tallyAt (sndC c 0 s) () N) ∗ cred (tallyAt (sndC c 1 s) () N) ∗ ow c (copiesR (s.val + 1))) -∗ Q ⟨⟩))
      ⊢ run c (rsSend c s) Q := by
  unfold run rsSend
  rw [wp_bind, copiesR_step]
  iintro ⟨#HR, Hp, Hl, Hp', Hl', HO, Ht1, Ht2, Ht3, Ht4, HQ⟩
  iapply (sendT V K c (devR c) (devR_eq c) s ((1, s) :: copiesR (s.val + 1)) (off8_eq' c s) (fun _ => wp frame (wpE (defs₀ (F := F)) 𝒱₀ (c : Thread nD τ) none) Set.univ
    (sendP pbM (k0_off9 c (bv s)) (k0_off9_inb c s) cbM s (devL c) (semAt cc0_scratch6 s) (semAt cc0_scratch7 s)) Q))
  isplitr; · iexact HR
  isplitl [Hp]; · iexact Hp
  isplitl [Hl]; · iexact Hl
  isplitl [HO]; · iexact HO
  isplitl [Ht1]; · iexact Ht1
  isplitl [Ht2]; · iexact Ht2
  iintro ⟨Hc, HO⟩
  iapply (sendB V K c (devL c) (devL_eq c) s (copiesR (s.val + 1)) (off9_eq' c s) Q)
  isplitr; · iexact HR
  isplitl [Hp']; · iexact Hp'
  isplitl [Hl']; · iexact Hl'
  isplitl [HO]; · iexact HO
  isplitl [Ht3]; · iexact Ht3
  isplitl [Ht4]; · iexact Ht4
  iintro ⟨Hc', HO⟩
  iapply HQ
  isplitl [Hc]; · iexact Hc
  isplitl [Hc']; · iexact Hc'
  iexact HO

theorem rsComp_wp (c : Dev nD) (s : Fin 15) (hs : s.val < 14) (Q : PUnit → sProp 𝕄) :
    iprop(ops V c ∗ (∃ f, ptT c (setT c fun j => j = s.val + 2) f) ∗ (∃ f, ptB c (setB c fun j => j = s.val + 2) f)
        ∗ ((ops V c ∗ ptT c (setT c fun j => j = s.val + 2) (prodT V c) ∗ ptB c (setB c fun j => j = s.val + 2) (prodB V c)) -∗ Q ⟨⟩))
      ⊢ run c (rsComp c s) Q := by
  unfold run rsComp
  rw [wp_bind]
  iintro ⟨Ho, Hp, Hp', HQ⟩
  iapply (compT V c (show s.val + 2 < 16 by omega) (off10_eq' c s) (off11_eq2 c s) (fun _ => wp frame (wpE (defs₀ (F := F)) 𝒱₀ (c : Thread nD τ) none) Set.univ
    (comp pbM (k0_off12 c (bv s)) (off12_inb c s) (k0_off13 c (bv s) 2#32) (off13_inb2 c s)) Q))
  isplitl [Ho]; · iexact Ho
  isplitl [Hp]; · iexact Hp
  iintro ⟨Ho, Hp⟩
  iapply (compB V c (show s.val + 2 < 16 by omega) (off12_eq' c s) (off13_eq2 c s) Q)
  isplitl [Ho]; · iexact Ho
  isplitl [Hp']; · iexact Hp'
  iintro ⟨Ho, Hp'⟩
  iapply HQ
  isplitl [Ho]; · iexact Ho
  isplitl [Hp] <;> iassumption

theorem rsRecv_wp (c : Dev nD) (s : Fin 15) (Q : PUnit → sProp 𝕄) :
    iprop(recs V K ∗ cred (tallyAt (sndC c 0 s) () N) ∗ cred (tallyAt (rcvC c 0 s) () N) ∗ atPos ER (sndC c 0 s) 0 ∅ 0 ∗ atPos ER (rcvC c 0 s) 0 ∅ 0
        ∗ cred (tallyAt (sndC c 1 s) () N) ∗ cred (tallyAt (rcvC c 1 s) () N) ∗ atPos ER (sndC c 1 s) 0 ∅ 0 ∗ atPos ER (rcvC c 1 s) 0 ∅ 0
        ∗ ow c (copiesR (s.val + 1)) ∗ ptT c (setT c fun j => j = s.val + 1) (prodT V c) ∗ ptB c (setB c fun j => j = s.val + 1) (prodB V c)
        ∗ ((ow c (copiesR (s.val + 1)) ∗ dn c (0, s) ∗ dn c (1, s)
            ∗ ptT c (setT c fun j => j = s.val) (sumT V c) ∗ ptT c (setT c fun j => j = s.val + 1) (sumT V c) ∗ ctT c (setC fun j => j = s.val) (landT V c)
            ∗ ptB c (setB c fun j => j = s.val) (sumB V c) ∗ ptB c (setB c fun j => j = s.val + 1) (sumB V c) ∗ ctB c (setC fun j => j = s.val) (landB V c)) -∗ Q ⟨⟩))
      ⊢ run c (rsRecv c s) Q := by
  unfold run rsRecv waitP
  rw [wp_bind]
  iintro ⟨#HR, Hc1, Hc2, Ha1, Ha2, Hc3, Hc4, Ha3, Ha4, HO, Hp, Hp', HQ⟩
  iapply (waits_wp V K c 0 s (copiesR (s.val + 1)) (copiesR_lev 0 (by decide) s) (N_ptM _ _) (N_ctM s))
  isplitr; · iexact HR
  isplitl [Hc1]; · iexact Hc1
  isplitl [Hc2]; · iexact Hc2
  isplitl [Ha1]; · iexact Ha1
  isplitl [Ha2]; · iexact Ha2
  isplitl [HO]; · iexact HO
  iintro ⟨HO, Hd, Hs⟩
  icases (got0 V c s.val) $$ Hs with ⟨Hs, Hl⟩
  rw [wp_bind]
  iapply (waits_wp V K c 1 s (copiesR (s.val + 1)) (copiesR_lev 1 (by decide) s) (N_pbM _ _) (N_cbM s))
  isplitr; · iexact HR
  isplitl [Hc3]; · iexact Hc3
  isplitl [Hc4]; · iexact Hc4
  isplitl [Ha3]; · iexact Ha3
  isplitl [Ha4]; · iexact Ha4
  isplitl [HO]; · iexact HO
  iintro ⟨HO, Hd', Hs'⟩
  icases (got1 V c s.val) $$ Hs' with ⟨Hs', Hl'⟩
  rw [wp_bind]
  iapply (addT V c s (off11_eq1 c s))
  isplitl [Hp]; · iexact Hp
  isplitl [Hl]; · iexact Hl
  iintro ⟨Hp, Hl⟩
  iapply (addB V c s (off13_eq1 c s) Q)
  isplitl [Hp']; · iexact Hp'
  isplitl [Hl']; · iexact Hl'
  iintro ⟨Hp', Hl'⟩
  iapply HQ
  isplitl [HO]; · iexact HO
  isplitl [Hd]; · iexact Hd
  isplitl [Hd']; · iexact Hd'
  isplitl [Hs]; · iexact Hs
  isplitl [Hp]; · iexact Hp
  isplitl [Hl]; · iexact Hl
  isplitl [Hs']; · iexact Hs'
  isplitl [Hp'] <;> iassumption

/-- The top half before reduce step `k`: the slots up to age `k` accumulated, the next one computed, the landing slots before `k` filled,
and the right neighbour's from `k` on in hand. -/
def RT (c : Dev nD) (k : ℕ) : sProp 𝕄 :=
  iprop(ptT c (setT c fun j => j ≤ k) (sumT V c) ∗ ptT c (setT c fun j => j = k + 1) (prodT V c) ∗ (∃ f, ptT c (setT c fun j => k + 2 ≤ j) f)
    ∗ ctT c (setC fun j => j < k) (landT V c) ∗ ∃ f, ctT (right c) (setC fun j => k ≤ j) f)
/-- What a step leaves alone. -/
def keepT (c : Dev nD) (k : ℕ) : sProp 𝕄 :=
  iprop(ptT c (setT c fun j => j < k) (sumT V c) ∗ (∃ f, ptT c (setT c fun j => k + 3 ≤ j) f)
    ∗ ctT c (setC fun j => j < k) (landT V c) ∗ ∃ f, ctT (right c) (setC fun j => k + 1 ≤ j) f)
theorem RT_open (c : Dev nD) (k : ℕ) : RT V c k ⊢ iprop(keepT V c k ∗ ptT c (setT c fun j => j = k) (sumT V c) ∗ (∃ f, ctT (right c) (setC fun j => j = k) f)
    ∗ ptT c (setT c fun j => j = k + 1) (prodT V c) ∗ ∃ f, ptT c (setT c fun j => j = k + 2) f) := by
  unfold RT keepT
  iintro ⟨Hs, Hp, ⟨%f, Hr⟩, Hl, ⟨%g, Hn⟩⟩
  icases (cutT c (p1 := fun j => j < k) (p2 := fun j => j = k) (fun j _ => by omega) (sumT V c)).1 $$ Hs with ⟨Hs1, Hs2⟩
  icases (cutT c (p1 := fun j => j = k + 2) (p2 := fun j => k + 3 ≤ j) (fun j _ => by omega) f).1 $$ Hr with ⟨Hr1, Hr2⟩
  icases (cutCT (right c) (p1 := fun j => j = k) (p2 := fun j => k + 1 ≤ j) (fun j _ => by omega) g).1 $$ Hn with ⟨Hn1, Hn2⟩
  isplitl [Hs1 Hr2 Hl Hn2]
  · isplitl [Hs1]; · iexact Hs1
    isplitl [Hr2]; · iexists f; iexact Hr2
    isplitl [Hl]; · iexact Hl
    iexists g; iexact Hn2
  isplitl [Hs2]; · iexact Hs2
  isplitl [Hn1]; · iexists g; iexact Hn1
  isplitl [Hp]; · iexact Hp
  iexists f; iexact Hr1
theorem RT_close (c : Dev nD) (k : ℕ) : iprop(keepT V c k ∗ ptT c (setT c fun j => j = k) (sumT V c) ∗ ptT c (setT c fun j => j = k + 1) (sumT V c)
    ∗ ctT c (setC fun j => j = k) (landT V c) ∗ ptT c (setT c fun j => j = k + 2) (prodT V c)) ⊢ RT V c (k + 1) := by
  unfold RT keepT
  iintro ⟨⟨Hs1, Hr, Hl1, Hn⟩, Hs2, Hs3, Hl2, Hp⟩
  isplitl [Hs1 Hs2 Hs3]
  · iapply (cutT c (p1 := fun j => j ≤ k) (p2 := fun j => j = k + 1) (fun j _ => by omega) (sumT V c)).2
    isplitl [Hs1 Hs2]
    · iapply (cutT c (p1 := fun j => j < k) (p2 := fun j => j = k) (fun j _ => by omega) (sumT V c)).2
      isplitl [Hs1] <;> iassumption
    iexact Hs3
  isplitl [Hp]; · iexact Hp
  isplitl [Hr]; · iexact Hr
  isplitl [Hl1 Hl2]
  · iapply (cutCT c (p1 := fun j => j < k) (p2 := fun j => j = k) (fun j _ => by omega) (landT V c)).2
    isplitl [Hl1] <;> iassumption
  iexact Hn

/-- The top half of the result before gather step `t`: the device's own chunk and those received, and the right neighbour's rows still to be sent. -/
def GT (c : Dev nD) (t : ℕ) : sProp 𝕄 :=
  iprop(outP c (outT c fun j => j = 15 ∨ j < t) (res V) ∗ ∃ f, outP (right c) (outT (right c) fun j => t ≤ j ∧ j < 15) f)
theorem GT_open (c : Dev nD) (t : Fin 15) : GT V c t.val ⊢ iprop(outP c (outT c fun j => (j = 15 ∨ j < t.val) ∧ j ≠ (t.val + 15) % 16) (res V)
    ∗ (∃ f, outP (right c) (outT (right c) fun j => t.val + 1 ≤ j ∧ j < 15) f)
    ∗ outP c (outT c fun j => j = (t.val + 15) % 16) (res V) ∗ ∃ f, outP (right c) (outT (right c) fun j => j = t.val) f) := by
  unfold GT
  iintro ⟨Hs, ⟨%g, Hn⟩⟩
  icases (cutOT c (p1 := fun j => (j = 15 ∨ j < t.val) ∧ j ≠ (t.val + 15) % 16) (p2 := fun j => j = (t.val + 15) % 16) (fun j _ => by omega) (res V)).1 $$ Hs with ⟨Hs1, Hs2⟩
  icases (cutOT (right c) (p1 := fun j => t.val + 1 ≤ j ∧ j < 15) (p2 := fun j => j = t.val) (fun j _ => by omega) g).1 $$ Hn with ⟨Hn1, Hn2⟩
  isplitl [Hs1]; · iexact Hs1
  isplitl [Hn1]; · iexists g; iexact Hn1
  isplitl [Hs2]; · iexact Hs2
  iexists g; iexact Hn2
theorem GT_close (c : Dev nD) (t : Fin 15) : iprop(outP c (outT c fun j => (j = 15 ∨ j < t.val) ∧ j ≠ (t.val + 15) % 16) (res V)
    ∗ (∃ f, outP (right c) (outT (right c) fun j => t.val + 1 ≤ j ∧ j < 15) f)
    ∗ outP c (outT c fun j => j = (t.val + 15) % 16) (res V) ∗ outP c (outT c fun j => j = t.val) (res V)) ⊢ GT V c (t.val + 1) := by
  unfold GT
  iintro ⟨Hs1, Hn, Hs2, Hs3⟩
  isplitr [Hn]
  · iapply (cutOT c (p1 := fun j => j = 15 ∨ j < t.val) (p2 := fun j => j = t.val) (fun j _ => by omega) (res V)).2
    isplitr [Hs3]
    · iapply (cutOT c (p1 := fun j => (j = 15 ∨ j < t.val) ∧ j ≠ (t.val + 15) % 16) (p2 := fun j => j = (t.val + 15) % 16) (fun j _ => by omega) (res V)).2
      isplitl [Hs1] <;> iassumption
    iexact Hs3
  iexact Hn

/-- The bottom half before reduce step `k`: the slots up to age `k` accumulated, the next one computed, the landing slots before `k` filled,
and the left neighbour's from `k` on in hand. -/
def RB (c : Dev nD) (k : ℕ) : sProp 𝕄 :=
  iprop(ptB c (setB c fun j => j ≤ k) (sumB V c) ∗ ptB c (setB c fun j => j = k + 1) (prodB V c) ∗ (∃ f, ptB c (setB c fun j => k + 2 ≤ j) f)
    ∗ ctB c (setC fun j => j < k) (landB V c) ∗ ∃ f, ctB (left c) (setC fun j => k ≤ j) f)
/-- What a step leaves alone. -/
def keepB (c : Dev nD) (k : ℕ) : sProp 𝕄 :=
  iprop(ptB c (setB c fun j => j < k) (sumB V c) ∗ (∃ f, ptB c (setB c fun j => k + 3 ≤ j) f)
    ∗ ctB c (setC fun j => j < k) (landB V c) ∗ ∃ f, ctB (left c) (setC fun j => k + 1 ≤ j) f)
theorem RB_open (c : Dev nD) (k : ℕ) : RB V c k ⊢ iprop(keepB V c k ∗ ptB c (setB c fun j => j = k) (sumB V c) ∗ (∃ f, ctB (left c) (setC fun j => j = k) f)
    ∗ ptB c (setB c fun j => j = k + 1) (prodB V c) ∗ ∃ f, ptB c (setB c fun j => j = k + 2) f) := by
  unfold RB keepB
  iintro ⟨Hs, Hp, ⟨%f, Hr⟩, Hl, ⟨%g, Hn⟩⟩
  icases (cutB c (p1 := fun j => j < k) (p2 := fun j => j = k) (fun j _ => by omega) (sumB V c)).1 $$ Hs with ⟨Hs1, Hs2⟩
  icases (cutB c (p1 := fun j => j = k + 2) (p2 := fun j => k + 3 ≤ j) (fun j _ => by omega) f).1 $$ Hr with ⟨Hr1, Hr2⟩
  icases (cutCB (left c) (p1 := fun j => j = k) (p2 := fun j => k + 1 ≤ j) (fun j _ => by omega) g).1 $$ Hn with ⟨Hn1, Hn2⟩
  isplitl [Hs1 Hr2 Hl Hn2]
  · isplitl [Hs1]; · iexact Hs1
    isplitl [Hr2]; · iexists f; iexact Hr2
    isplitl [Hl]; · iexact Hl
    iexists g; iexact Hn2
  isplitl [Hs2]; · iexact Hs2
  isplitl [Hn1]; · iexists g; iexact Hn1
  isplitl [Hp]; · iexact Hp
  iexists f; iexact Hr1
theorem RB_close (c : Dev nD) (k : ℕ) : iprop(keepB V c k ∗ ptB c (setB c fun j => j = k) (sumB V c) ∗ ptB c (setB c fun j => j = k + 1) (sumB V c)
    ∗ ctB c (setC fun j => j = k) (landB V c) ∗ ptB c (setB c fun j => j = k + 2) (prodB V c)) ⊢ RB V c (k + 1) := by
  unfold RB keepB
  iintro ⟨⟨Hs1, Hr, Hl1, Hn⟩, Hs2, Hs3, Hl2, Hp⟩
  isplitl [Hs1 Hs2 Hs3]
  · iapply (cutB c (p1 := fun j => j ≤ k) (p2 := fun j => j = k + 1) (fun j _ => by omega) (sumB V c)).2
    isplitl [Hs1 Hs2]
    · iapply (cutB c (p1 := fun j => j < k) (p2 := fun j => j = k) (fun j _ => by omega) (sumB V c)).2
      isplitl [Hs1] <;> iassumption
    iexact Hs3
  isplitl [Hp]; · iexact Hp
  isplitl [Hr]; · iexact Hr
  isplitl [Hl1 Hl2]
  · iapply (cutCB c (p1 := fun j => j < k) (p2 := fun j => j = k) (fun j _ => by omega) (landB V c)).2
    isplitl [Hl1] <;> iassumption
  iexact Hn

/-- The bottom half of the result before gather step `t`: the device's own chunk and those received, and the left neighbour's rows still to be sent. -/
def GB (c : Dev nD) (t : ℕ) : sProp 𝕄 :=
  iprop(outP c (outB c fun j => j = 15 ∨ j < t) (res V) ∗ ∃ f, outP (left c) (outB (left c) fun j => t ≤ j ∧ j < 15) f)
theorem GB_open (c : Dev nD) (t : Fin 15) : GB V c t.val ⊢ iprop(outP c (outB c fun j => (j = 15 ∨ j < t.val) ∧ j ≠ (t.val + 15) % 16) (res V)
    ∗ (∃ f, outP (left c) (outB (left c) fun j => t.val + 1 ≤ j ∧ j < 15) f)
    ∗ outP c (outB c fun j => j = (t.val + 15) % 16) (res V) ∗ ∃ f, outP (left c) (outB (left c) fun j => j = t.val) f) := by
  unfold GB
  iintro ⟨Hs, ⟨%g, Hn⟩⟩
  icases (cutOB c (p1 := fun j => (j = 15 ∨ j < t.val) ∧ j ≠ (t.val + 15) % 16) (p2 := fun j => j = (t.val + 15) % 16) (fun j _ => by omega) (res V)).1 $$ Hs with ⟨Hs1, Hs2⟩
  icases (cutOB (left c) (p1 := fun j => t.val + 1 ≤ j ∧ j < 15) (p2 := fun j => j = t.val) (fun j _ => by omega) g).1 $$ Hn with ⟨Hn1, Hn2⟩
  isplitl [Hs1]; · iexact Hs1
  isplitl [Hn1]; · iexists g; iexact Hn1
  isplitl [Hs2]; · iexact Hs2
  iexists g; iexact Hn2
theorem GB_close (c : Dev nD) (t : Fin 15) : iprop(outP c (outB c fun j => (j = 15 ∨ j < t.val) ∧ j ≠ (t.val + 15) % 16) (res V)
    ∗ (∃ f, outP (left c) (outB (left c) fun j => t.val + 1 ≤ j ∧ j < 15) f)
    ∗ outP c (outB c fun j => j = (t.val + 15) % 16) (res V) ∗ outP c (outB c fun j => j = t.val) (res V)) ⊢ GB V c (t.val + 1) := by
  unfold GB
  iintro ⟨Hs1, Hn, Hs2, Hs3⟩
  isplitr [Hn]
  · iapply (cutOB c (p1 := fun j => j = 15 ∨ j < t.val) (p2 := fun j => j = t.val) (fun j _ => by omega) (res V)).2
    isplitr [Hs3]
    · iapply (cutOB c (p1 := fun j => (j = 15 ∨ j < t.val) ∧ j ≠ (t.val + 15) % 16) (p2 := fun j => j = (t.val + 15) % 16) (fun j _ => by omega) (res V)).2
      isplitl [Hs1] <;> iassumption
    iexact Hs3
  iexact Hn

/-- Before reduce step `k`. -/
def rsI (c : Dev nD) (k : ℕ) : sProp 𝕄 := iprop(recs V K ∗ ops V c ∗ RT V c k ∗ RB V c k ∗ ow c (copiesR k))

theorem rsStep_wp (c : Dev nD) (s : Fin 15) (hs : s.val < 14) (Q : PUnit → sProp 𝕄) :
    iprop(rsI V K c s.val ∗ (tk c (0, s) ∗ tk c (1, s)) ∗ ((rsI V K c (s.val + 1) ∗ (dn c (0, s) ∗ dn c (1, s))) -∗ Q ⟨⟩))
      ⊢ run c (rsStep c s) Q := by
  unfold run rsStep rsI tk
  rw [wp_bind]
  iintro ⟨⟨#HR, Ho, HT, HB, HO⟩, ⟨⟨Ha1, Ha2, Ht1, Ht2, Hc1⟩, ⟨Ha3, Ha4, Ht3, Ht4, Hc2⟩⟩, HQ⟩
  icases (RT_open V c s.val) $$ HT with ⟨HkT, HsT, HnT, HpT, HrT⟩
  icases (RB_open V c s.val) $$ HB with ⟨HkB, HsB, HnB, HpB, HrB⟩
  iapply (rsSend_wp V K c s)
  isplitr; · iexact HR
  isplitl [HsT]; · iexact HsT
  isplitl [HnT]; · iexact HnT
  isplitl [HsB]; · iexact HsB
  isplitl [HnB]; · iexact HnB
  isplitl [HO]; · iexact HO
  isplitl [Ht1]; · iexact Ht1
  isplitl [Ht2]; · iexact Ht2
  isplitl [Ht3]; · iexact Ht3
  isplitl [Ht4]; · iexact Ht4
  iintro ⟨Hd1, Hd2, HO⟩
  rw [wp_bind]
  iapply (rsComp_wp V c s hs)
  isplitl [Ho]; · iexact Ho
  isplitl [HrT]; · iexact HrT
  isplitl [HrB]; · iexact HrB
  iintro ⟨Ho, HrT, HrB⟩
  iapply (rsRecv_wp V K c s Q)
  isplitr; · iexact HR
  isplitl [Hd1]; · iexact Hd1
  isplitl [Hc1]; · iexact Hc1
  isplitl [Ha1]; · iexact Ha1
  isplitl [Ha2]; · iexact Ha2
  isplitl [Hd2]; · iexact Hd2
  isplitl [Hc2]; · iexact Hc2
  isplitl [Ha3]; · iexact Ha3
  isplitl [Ha4]; · iexact Ha4
  isplitl [HO]; · iexact HO
  isplitl [HpT]; · iexact HpT
  isplitl [HpB]; · iexact HpB
  iintro ⟨HO, Hz1, Hz2, HsT, HsT', HlT, HsB, HsB', HlB⟩
  iapply HQ
  isplitr [Hz1 Hz2]
  · isplitr; · iexact HR
    isplitl [Ho]; · iexact Ho
    isplitl [HkT HsT HsT' HlT HrT]
    · iapply (RT_close V c s.val)
      isplitl [HkT]; · iexact HkT
      isplitl [HsT]; · iexact HsT
      isplitl [HsT']; · iexact HsT'
      isplitl [HlT] <;> iassumption
    isplitr [HO]
    · iapply (RB_close V c s.val)
      isplitl [HkB]; · iexact HkB
      isplitl [HsB]; · iexact HsB
      isplitl [HsB']; · iexact HsB'
      isplitl [HlB] <;> iassumption
    iexact HO
  isplitl [Hz1] <;> iassumption

/-- The last reduce step, which computes nothing: every slot accumulated, every landing slot filled. -/
theorem rsLast_wp (c : Dev nD) (Q : PUnit → sProp 𝕄) :
    iprop(rsI V K c 14 ∗ (tk c (0, 14) ∗ tk c (1, 14)) ∗ ((recs V K ∗ ops V c
          ∗ (ptT c (setT c fun j => j ≤ 15) (sumT V c) ∗ ctT c (setC fun j => j < 15) (landT V c))
          ∗ (ptB c (setB c fun j => j ≤ 15) (sumB V c) ∗ ctB c (setC fun j => j < 15) (landB V c)) ∗ ow c (copiesG 0)
          ∗ (dn c (0, 14) ∗ dn c (1, 14))) -∗ Q ⟨⟩))
      ⊢ run c (rsSend c 14) (fun _ => run c (rsRecv c 14) Q) := by
  unfold run rsI tk
  iintro ⟨⟨#HR, Ho, HT, HB, HO⟩, ⟨⟨Ha1, Ha2, Ht1, Ht2, Hc1⟩, ⟨Ha3, Ha4, Ht3, Ht4, Hc2⟩⟩, HQ⟩
  icases (RT_open V c 14) $$ HT with ⟨HkT, HsT, HnT, HpT, -⟩
  icases (RB_open V c 14) $$ HB with ⟨HkB, HsB, HnB, HpB, -⟩
  iapply (rsSend_wp V K c 14)
  isplitr; · iexact HR
  isplitl [HsT]; · iexact HsT
  isplitl [HnT]; · iexact HnT
  isplitl [HsB]; · iexact HsB
  isplitl [HnB]; · iexact HnB
  isplitl [HO]; · iexact HO
  isplitl [Ht1]; · iexact Ht1
  isplitl [Ht2]; · iexact Ht2
  isplitl [Ht3]; · iexact Ht3
  isplitl [Ht4]; · iexact Ht4
  iintro ⟨Hd1, Hd2, HO⟩
  iapply (rsRecv_wp V K c 14 Q)
  isplitr; · iexact HR
  isplitl [Hd1]; · iexact Hd1
  isplitl [Hc1]; · iexact Hc1
  isplitl [Ha1]; · iexact Ha1
  isplitl [Ha2]; · iexact Ha2
  isplitl [Hd2]; · iexact Hd2
  isplitl [Hc2]; · iexact Hc2
  isplitl [Ha3]; · iexact Ha3
  isplitl [Ha4]; · iexact Ha4
  isplitl [HO]; · iexact HO
  isplitl [HpT]; · iexact HpT
  isplitl [HpB]; · iexact HpB
  iintro ⟨HO, Hz1, Hz2, HsT, HsT', HlT, HsB, HsB', HlB⟩
  iapply HQ
  unfold keepT keepB
  icases HkT with ⟨HkT, -, HkT', -⟩
  icases HkB with ⟨HkB, -, HkB', -⟩
  isplitr; · iexact HR
  isplitl [Ho]; · iexact Ho
  isplitl [HkT HsT HsT' HlT HkT']
  · isplitl [HkT HsT HsT']
    · iapply (cutT c (p1 := fun j => j ≤ 14) (p2 := fun j => j = 15) (fun j _ => by omega) (sumT V c)).2
      isplitl [HkT HsT]
      · iapply (cutT c (p1 := fun j => j < 14) (p2 := fun j => j = 14) (fun j _ => by omega) (sumT V c)).2
        isplitl [HkT]; · iexact HkT
        iexact HsT
      iexact HsT'
    iapply (cutCT c (p1 := fun j => j < 14) (p2 := fun j => j = 14) (fun j _ => by omega) (landT V c)).2
    isplitl [HkT']; · iexact HkT'
    iexact HlT
  isplitl [HkB HsB HsB' HlB HkB']
  · isplitl [HkB HsB HsB']
    · iapply (cutB c (p1 := fun j => j ≤ 14) (p2 := fun j => j = 15) (fun j _ => by omega) (sumB V c)).2
      isplitl [HkB HsB]
      · iapply (cutB c (p1 := fun j => j < 14) (p2 := fun j => j = 14) (fun j _ => by omega) (sumB V c)).2
        isplitl [HkB]; · iexact HkB
        iexact HsB
      iexact HsB'
    iapply (cutCB c (p1 := fun j => j < 14) (p2 := fun j => j = 14) (fun j _ => by omega) (landB V c)).2
    isplitl [HkB']; · iexact HkB'
    iexact HlB
  isplitl [HO]; · iexact HO
  isplitl [Hz1] <;> iassumption

/-! ## A gather step -/

/-- Before gather step `t`. -/
def agI (c : Dev nD) (t : ℕ) : sProp 𝕄 := iprop(recs V K ∗ GT V c t ∗ GB V c t ∗ ow c (copiesG t))

theorem agStep_wp (c : Dev nD) (t : Fin 15) (Q : PUnit → sProp 𝕄) :
    iprop(agI V K c t.val ∗ (tk c (2, t) ∗ tk c (3, t)) ∗ ((agI V K c (t.val + 1) ∗ (dn c (2, t) ∗ dn c (3, t))) -∗ Q ⟨⟩))
      ⊢ run c (agStep c t) Q := by
  unfold run agStep agI tk waitO
  rw [wp_bind, copiesG_step]
  iintro ⟨⟨#HR, HT, HB, HO⟩, ⟨⟨Ha1, Ha2, Ht1, Ht2, Hc1⟩, ⟨Ha3, Ha4, Ht3, Ht4, Hc2⟩⟩, HQ⟩
  icases (GT_open V c t) $$ HT with ⟨HkT, HmT, HsT, HnT⟩
  icases (GB_open V c t) $$ HB with ⟨HkB, HmB, HsB, HnB⟩
  iapply (sendOT V K c (devR c) (devR_eq c) t ((3, t) :: copiesG (t.val + 1)) (off16_eq' c t))
  isplitr; · iexact HR
  isplitl [HsT]; · iexact HsT
  isplitl [HnT]; · iexact HnT
  isplitl [HO]; · iexact HO
  isplitl [Ht1]; · iexact Ht1
  isplitl [Ht2]; · iexact Ht2
  iintro ⟨Hd1, HO⟩
  rw [wp_bind]
  iapply (sendOB V K c (devL c) (devL_eq c) t (copiesG (t.val + 1)) (off17_eq' c t))
  isplitr; · iexact HR
  isplitl [HsB]; · iexact HsB
  isplitl [HnB]; · iexact HnB
  isplitl [HO]; · iexact HO
  isplitl [Ht3]; · iexact Ht3
  isplitl [Ht4]; · iexact Ht4
  iintro ⟨Hd2, HO⟩
  rw [wp_bind]
  iapply (waits_wp V K c 2 t (copiesG (t.val + 1)) (copiesG_lev 2 t) (N_out _ _) (N_out _ _))
  isplitr; · iexact HR
  isplitl [Hd1]; · iexact Hd1
  isplitl [Hc1]; · iexact Hc1
  isplitl [Ha1]; · iexact Ha1
  isplitl [Ha2]; · iexact Ha2
  isplitl [HO]; · iexact HO
  iintro ⟨HO, Hz1, HsT⟩
  icases (got2 V c t.val) $$ HsT with ⟨HsT, HlT⟩
  iapply (waits_wp V K c 3 t (copiesG (t.val + 1)) (copiesG_lev 3 t) (N_out _ _) (N_out _ _) Q)
  isplitr; · iexact HR
  isplitl [Hd2]; · iexact Hd2
  isplitl [Hc2]; · iexact Hc2
  isplitl [Ha3]; · iexact Ha3
  isplitl [Ha4]; · iexact Ha4
  isplitl [HO]; · iexact HO
  iintro ⟨HO, Hz2, HsB⟩
  icases (got3 V c t.val) $$ HsB with ⟨HsB, HlB⟩
  iapply HQ
  isplitr [Hz1 Hz2]
  · isplitr; · iexact HR
    isplitl [HkT HmT HsT HlT]
    · iapply (GT_close V c t)
      isplitl [HkT]; · iexact HkT
      isplitl [HmT]; · iexact HmT
      isplitl [HsT] <;> iassumption
    isplitr [HO]
    · iapply (GB_close V c t)
      isplitl [HkB]; · iexact HkB
      isplitl [HmB]; · iexact HmB
      isplitl [HsB] <;> iassumption
    iexact HO
  isplitl [Hz1] <;> iassumption

end Cert.KernelIdealProof

end
-- ==== Proof.BodySteps.lean ====
/-
# The printed body is the sequence of its steps
-/
module

public import proofs.«01_k».proof.Proof.Steps

@[expose] public section

noncomputable section

namespace Cert.KernelIdealProof

open Cert.KernelIdeal Cert.KernelIdeal.Gen
open Idealize.ShloMosaic Idealize.ShloMosaic.TcCoe
open Idealize.SL Idealize.SL.Sem

variable {F : FTy → Type} [FloatOps F]

abbrev bodyPrinted : P (F := F) PUnit :=
  cc0_body xM (Memref.isWhole_whole _) w1M (Memref.isWhole_whole _) w2M (Memref.isWhole_whole _) oM (Memref.isWhole_whole _)
    ptM (Memref.isWhole_whole _) pbM (Memref.isWhole_whole _) ctM (Memref.isWhole_whole _) cbM (Memref.isWhole_whole _)
    cc0_scratch4 cc0_scratch5 cc0_scratch6 cc0_scratch7 cc0_scratch8 cc0_scratch9 cc0_scratch10 cc0_scratch11

set_option maxRecDepth 65536 in
set_option maxHeartbeats 0 in
theorem body_eq_steps : bodyPrinted (F := F) = bodySteps := by
  rw [bodyPrinted, cc0_body_eq_skeleton]
  with_unfolding_all rfl

end Cert.KernelIdealProof

end
-- ==== Proof.Body.lean ====
/-
# The body at a device

From the handshake to the last gather step.
-/
module

public import proofs.«01_k».proof.Proof.Rings
public import proofs.«01_k».proof.Proof.BodySteps

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (V : Operands F) (K : Dev nD × Fin 121 → ℕ)

/-! ## The handshake -/

/-- Each neighbour is told that this device has entered, and given what it will copy into; the same comes back from both. -/
theorem handshake_wp (c : Dev nD) (Q : PUnit → sProp 𝕄) :
    iprop(recs V K ∗ atPos ER (barC c) 0 ∅ 0 ∗ dutyTok ER (barC (left c)) 0 true ∗ dutyTok ER (barC (right c)) 0 false ∗ cred (tallyAt (barC c) () 2)
        ∗ ((∃ f, ctT c (setC fun _ => True) f) ∗ ∃ f, outP c (outT c fun k => k < 15) f)
        ∗ ((∃ f, ctB c (setC fun _ => True) f) ∗ ∃ f, outP c (outB c fun k => k < 15) f)
        ∗ (∃ W, owes (c : Thread nD τ) (owe₀ c) W)
        ∗ ((ow c (copiesR 0) ∗ semVal (barC c) 0 ∗ barPay (F := F) c false ∗ barPay (F := F) c true) -∗ Q ⟨⟩))
      ⊢ run c (handshake c) Q := by
  unfold run handshake
  simp only [devL_eq, devR_eq]
  simp only [semSignalWord, semWaitWord, Prog.lift, Prog.bind_op, Prog.bind_ret, Prog.pure_eq_ret]
  iintro ⟨#HR, Hat, HtL, HtR, Hc, HT, HB, ⟨%W, HO⟩, HQ⟩
  iapply (Rounds.wp_signal 𝒱₀ ER (sched V) (c : Thread nD τ) none (dst := (left c : Thread nD τ)) (κ := K (left c, iB))
      (d := true) (by rw [duties_bar]; exact Finset.mem_univ _) (show 1 = (1#32 : BitVec 32).toNat by decide) () (oweR c) rfl) $$ [HO HtL HT]
  · isplitr; · iapply (recs_inv V K (left c) csem_iB); iexact HR
    isplitl [HO]; · iexact HO
    isplitl [HtL]; · iexact HtL
    isplitl [HT]
    · iapply (Entails.of_eq (show barPay (F := F) (left c) true = (sched V).payload (barC (left c)) 0 true from rfl))
      unfold barPay; rw [right_left]; iexact HT
    iapply (recs_reached V K (left c) csem_iB); iexact HR
  iintro HO
  iapply (Rounds.wp_signal 𝒱₀ ER (sched V) (c : Thread nD τ) none (dst := (right c : Thread nD τ)) (κ := K (right c, iB))
      (d := false) (by rw [duties_bar]; exact Finset.mem_univ _) (show 1 = (1#32 : BitVec 32).toNat by decide) () (owe c allCopies) rfl) $$ [HO HtR HB]
  · isplitr; · iapply (recs_inv V K (right c) csem_iB); iexact HR
    isplitl [HO]; · iexact HO
    isplitl [HtR]; · iexact HtR
    isplitl [HB]
    · iapply (Entails.of_eq (show barPay (F := F) (right c) false = (sched V).payload (barC (right c)) 0 false from rfl))
      unfold barPay; rw [left_right]; iexact HB
    iapply (recs_reached V K (right c) csem_iB); iexact HR
  iintro HO
  iapply (Rounds.wp_wait_rest_token 𝒱₀ ER (sched V) (c : Thread nD τ) none (κ := K (c, iB))
      (wpE_semWait_eq 𝒱₀ (c : Thread nD τ) none Set.univ) (Set.mem_univ _) () (O := owe c allCopies) (W := W) (R := 0) (m := 0) (T := ∅)
      (by rw [expect_bar]; decide)) $$ [Hc HO Hat]
  · isplitr; · iapply (recs_inv V K c csem_iB); iexact HR
    isplitl [Hc]; · iexact Hc
    isplitl [HO]; · iexact HO
    isplitr; · iapply (recs_wait V K c (.reg barS) allCopies (by decide +kernel)); iexact HR
    iexact Hat
  iintro ⟨HO, Hat, -, Hpay⟩
  icases (Entails.of_eq (rest_bar V c)) $$ Hpay with ⟨Hp1, Hp2⟩
  imod (Rounds.cell_close ER (sched V) (Set.mem_univ (K (c, iB))) (fun h => h) (R := 0 + 1) (duties_later V (barC c))) $$ [Hat] with Hz
  · isplitr; · iapply (recs_inv V K c csem_iB); iexact HR
    iexact Hat
  rw [wp_ret]; imodintro
  iapply HQ
  isplitl [HO]
  · unfold ow; iexists _; iexact HO
  isplitl [Hz]; · iexact Hz
  isplitl [Hp1] <;> iassumption

/-! ## The first products, and the handover from reduce to gather -/

theorem firstTiles_wp (c : Dev nD) (Q : PUnit → sProp 𝕄) :
    iprop(ops V c ∗ ((∃ f, ptT c (setT c fun j => j = 0) f) ∗ ∃ f, ptT c (setT c fun j => j = 1) f)
        ∗ ((∃ f, ptB c (setB c fun j => j = 0) f) ∗ ∃ f, ptB c (setB c fun j => j = 1) f)
        ∗ ((ops V c ∗ (ptT c (setT c fun j => j = 0) (prodT V c) ∗ ptT c (setT c fun j => j = 1) (prodT V c))
            ∗ (ptB c (setB c fun j => j = 0) (prodB V c) ∗ ptB c (setB c fun j => j = 1) (prodB V c))) -∗ Q ⟨⟩))
      ⊢ run c (firstTiles c) Q := by
  unfold run firstTiles
  rw [wp_bind]
  iintro ⟨Ho, ⟨Hp0, Hp1⟩, ⟨Hq0, Hq1⟩, HQ⟩
  iapply (compT V c (k := 0) (by omega) (off1_eq' c) (off2_eqT c))
  isplitl [Ho]; · iexact Ho
  isplitl [Hp0]; · iexact Hp0
  iintro ⟨Ho, Hp0⟩
  rw [wp_bind]
  iapply (compB V c (k := 0) (by omega) (off3_eq' c) (off2_eqB c))
  isplitl [Ho]; · iexact Ho
  isplitl [Hq0]; · iexact Hq0
  iintro ⟨Ho, Hq0⟩
  rw [wp_bind]
  iapply (compT V c (k := 1) (by omega) (off4_eq' c) (off5_eqT c))
  isplitl [Ho]; · iexact Ho
  isplitl [Hp1]; · iexact Hp1
  iintro ⟨Ho, Hp1⟩
  iapply (compB V c (k := 1) (by omega) (off6_eq' c) (off7_eqB c))
  isplitl [Ho]; · iexact Ho
  isplitl [Hq1]; · iexact Hq1
  iintro ⟨Ho, Hq1⟩
  iapply HQ
  isplitl [Ho]; · iexact Ho
  isplitl [Hp0 Hp1]
  · isplitl [Hp0] <;> iassumption
  isplitl [Hq0] <;> iassumption

theorem handOver_wp (c : Dev nD) (Q : PUnit → sProp 𝕄) :
    iprop(ptT c (setT c fun j => j ≤ 15) (sumT V c) ∗ ptB c (setB c fun j => j ≤ 15) (sumB V c)
        ∗ (∃ f, outP c (outT c fun j => j = 15) f) ∗ (∃ f, outP c (outB c fun j => j = 15) f)
        ∗ ((ptT c (setT c fun j => j ≤ 15) (sumT V c) ∗ ptB c (setB c fun j => j ≤ 15) (sumB V c)
            ∗ outP c (outT c fun j => j = 15) (res V) ∗ outP c (outB c fun j => j = 15) (res V)) -∗ Q ⟨⟩))
      ⊢ run c (handOver c) Q := by
  unfold run handOver
  rw [wp_bind]
  iintro ⟨Hp, Hq, Ho, Ho', HQ⟩
  iapply (putT V c (off7_eqT c) (off14_eq' c))
  isplitl [Hp]; · iexact Hp
  isplitl [Ho]; · iexact Ho
  iintro ⟨Hp, Ho⟩
  iapply (putB V c (off5_eqB c) (off15_eq' c))
  isplitl [Hq]; · iexact Hq
  isplitl [Ho']; · iexact Ho'
  iintro ⟨Hq, Ho'⟩
  iapply HQ
  isplitl [Hp]; · iexact Hp
  isplitl [Hq]; · iexact Hq
  isplitl [Ho] <;> iassumption

/-! ## Whole buffers and their parts -/

theorem setT_all (c : Dev nD) {p : ℕ → Prop} (h : ∀ k < 16, p k) : setT c p = Finset.univ := by
  ext i; simp only [setT, mem_fil, Finset.mem_univ, iff_true]; exact h _ (ageT_lt c _)
theorem setB_all (c : Dev nD) {p : ℕ → Prop} (h : ∀ k < 16, p k) : setB c p = Finset.univ := by
  ext i; simp only [setB, mem_fil, Finset.mem_univ, iff_true]; exact h _ (ageB_lt c _)
theorem setC_all {p : ℕ → Prop} (h : ∀ k < 15, p k) : setC p = Finset.univ := by
  ext i; simp only [setC, mem_fil, Finset.mem_univ, iff_true]; exact h _ (i 0).isLt

omit [FloatOps F] in
/-- The result buffer is its top halves and its bottom halves. -/
theorem cutOut (c : Dev nD) {p q : ℕ → Prop} (hp : ∀ k < 16, p k) (hq : ∀ k < 16, q k) (f : IO → Elt F .f32) :
    outP c Finset.univ f ⊣⊢ iprop(outP c (outT c p) f ∗ outP c (outB c q) f) := by
  rw [show (Finset.univ : Finset IO) = outT c p ∪ outB c q from by
    ext i
    simp only [outT, outB, Finset.mem_union, mem_fil, Finset.mem_univ, true_iff]
    have h1 := hp _ (ageT_lt c (chunk i)); have h2 := hq _ (ageB_lt c (chunk i))
    rcases Nat.mod_two_eq_zero_or_one (half i) with h | h
    · exact .inl ⟨h, h1⟩
    · exact .inr ⟨h, h2⟩]
  exact pointsTo_union (fil_disj fun i h1 h2 => by have := h1.1; have := h2.1; omega)

/-- Age zero accumulated is age zero computed. -/
theorem sumT_zero (c : Dev nD) : ptT c (setT c fun j => j = 0) (prodT V c) ⊢ ptT c (setT c fun j => j ≤ 0) (sumT V c) := by
  rw [show setT c (fun j => j ≤ 0) = setT c (fun j => j = 0) from fil_congr fun i => Nat.le_zero]
  refine Entails.of_eq (pointsTo_congr fun i hi => ?_)
  have h1 : ageT c (i 0).val = 0 := by rw [setT, mem_fil] at hi; exact hi
  rw [prodT, sumT, h1, accT, (eq_behind_iff c (i 0).isLt (by omega)).mpr h1]
theorem sumB_zero (c : Dev nD) : ptB c (setB c fun j => j = 0) (prodB V c) ⊢ ptB c (setB c fun j => j ≤ 0) (sumB V c) := by
  rw [show setB c (fun j => j ≤ 0) = setB c (fun j => j = 0) from fil_congr fun i => Nat.le_zero]
  refine Entails.of_eq (pointsTo_congr fun i hi => ?_)
  have h1 : ageB c (i 0).val = 0 := by rw [setB, mem_fil] at hi; exact hi
  rw [prodB, sumB, h1, accB, (eq_ahead_iff c (i 0).isLt (by omega)).mpr h1]

omit [FloatOps F] in
theorem none_landed (c : Dev nD) (f : I15 → Elt F .f32) : (iprop(emp) : sProp 𝕄) ⊢ ctT c (setC fun j => j < 0) f := by
  rw [show setC (fun j => j < 0) = ∅ from by ext i; simp [setC]]
  exact Entails.of_eq pointsTo_empty.symm
omit [FloatOps F] in
theorem none_landed' (c : Dev nD) (f : I15 → Elt F .f32) : (iprop(emp) : sProp 𝕄) ⊢ ctB c (setC fun j => j < 0) f := by
  rw [show setC (fun j => j < 0) = ∅ from by ext i; simp [setC]]
  exact Entails.of_eq pointsTo_empty.symm

/-- A slot buffer at the start: age zero, age one, the rest. -/
theorem startT (c : Dev nD) : iprop(∃ f, ptT c Finset.univ f) ⊢ iprop(((∃ f, ptT c (setT c fun j => j = 0) f) ∗ ∃ f, ptT c (setT c fun j => j = 1) f)
    ∗ ∃ f, ptT (F := F) c (setT c fun j => 2 ≤ j) f) := by
  rw [← setT_all c (p := fun k => k < 16) (fun _ h => h)]
  iintro ⟨%f, H⟩
  icases (cutT c (p1 := fun k => k = 0) (p2 := fun k => 1 ≤ k) (fun _ h => by omega) f).1 $$ H with ⟨H0, H⟩
  icases (cutT c (p1 := fun k => k = 1) (p2 := fun k => 2 ≤ k) (fun _ h => by omega) f).1 $$ H with ⟨H1, H⟩
  isplitr [H]
  · isplitl [H0]
    · iexists f; iexact H0
    iexists f; iexact H1
  iexists f; iexact H
theorem startB (c : Dev nD) : iprop(∃ f, ptB c Finset.univ f) ⊢ iprop(((∃ f, ptB c (setB c fun j => j = 0) f) ∗ ∃ f, ptB c (setB c fun j => j = 1) f)
    ∗ ∃ f, ptB (F := F) c (setB c fun j => 2 ≤ j) f) := by
  rw [← setB_all c (p := fun k => k < 16) (fun _ h => h)]
  iintro ⟨%f, H⟩
  icases (cutB c (p1 := fun k => k = 0) (p2 := fun k => 1 ≤ k) (fun _ h => by omega) f).1 $$ H with ⟨H0, H⟩
  icases (cutB c (p1 := fun k => k = 1) (p2 := fun k => 2 ≤ k) (fun _ h => by omega) f).1 $$ H with ⟨H1, H⟩
  isplitr [H]
  · isplitl [H0]
    · iexists f; iexact H0
    iexists f; iexact H1
  iexists f; iexact H

/-- What a device needs before reduce step 0. -/
theorem RT_start (c : Dev nD) : iprop((ptT c (setT c fun j => j = 0) (prodT V c) ∗ ptT c (setT c fun j => j = 1) (prodT V c))
    ∗ (∃ f, ptT c (setT c fun j => 2 ≤ j) f) ∗ ∃ f, ctT (right c) (setC fun _ => True) f) ⊢ RT V c 0 := by
  unfold RT
  rw [show setC (fun j => 0 ≤ j) = setC (fun _ => True) from fil_congr fun i => by simp]
  iintro ⟨⟨H0, H1⟩, Hr, Hn⟩
  isplitl [H0]; · iapply (sumT_zero V c); iexact H0
  isplitl [H1]; · iexact H1
  isplitl [Hr]; · iexact Hr
  isplitr [Hn]; · iapply (none_landed c (landT V c)); iempintro
  iexact Hn
theorem RB_start (c : Dev nD) : iprop((ptB c (setB c fun j => j = 0) (prodB V c) ∗ ptB c (setB c fun j => j = 1) (prodB V c))
    ∗ (∃ f, ptB c (setB c fun j => 2 ≤ j) f) ∗ ∃ f, ctB (left c) (setC fun _ => True) f) ⊢ RB V c 0 := by
  unfold RB
  rw [show setC (fun j => 0 ≤ j) = setC (fun _ => True) from fil_congr fun i => by simp]
  iintro ⟨⟨H0, H1⟩, Hr, Hn⟩
  isplitl [H0]; · iapply (sumB_zero V c); iexact H0
  isplitl [H1]; · iexact H1
  isplitl [Hr]; · iexact Hr
  isplitr [Hn]; · iapply (none_landed' c (landB V c)); iempintro
  iexact Hn

/-- What a device needs before gather step 0. -/
theorem GT_start (c : Dev nD) : iprop(outP c (outT c fun j => j = 15) (res V) ∗ ∃ f, outP (right c) (outT (right c) fun j => j < 15) f) ⊢ GT V c 0 := by
  unfold GT
  rw [show outT c (fun j => j = 15 ∨ j < 0) = outT c (fun j => j = 15) from fil_congr fun i => by simp,
    show outT (right c) (fun j => 0 ≤ j ∧ j < 15) = outT (right c) (fun j => j < 15) from fil_congr fun i => by simp]
theorem GB_start (c : Dev nD) : iprop(outP c (outB c fun j => j = 15) (res V) ∗ ∃ f, outP (left c) (outB (left c) fun j => j < 15) f) ⊢ GB V c 0 := by
  unfold GB
  rw [show outB c (fun j => j = 15 ∨ j < 0) = outB c (fun j => j = 15) from fil_congr fun i => by simp,
    show outB (left c) (fun j => 0 ≤ j ∧ j < 15) = outB (left c) (fun j => j < 15) from fil_congr fun i => by simp]

/-! ## The body -/

/-- The parts of the copies of each step, and what is left of them. -/
def tkR (c : Dev nD) (s : Fin 15) : sProp 𝕄 := iprop(tk c (0, s) ∗ tk c (1, s))
def tkG (c : Dev nD) (s : Fin 15) : sProp 𝕄 := iprop(tk c (2, s) ∗ tk c (3, s))
def dnR (c : Dev nD) (s : Fin 15) : sProp 𝕄 := iprop(dn c (0, s) ∗ dn c (1, s))
def dnG (c : Dev nD) (s : Fin 15) : sProp 𝕄 := iprop(dn c (2, s) ∗ dn c (3, s))
abbrev early : List (Fin 15) := [0, 1, 2, 3, 4, 5, 6, 7, 8, 9, 10, 11, 12, 13]

/-- Device `c`'s share of the protocol at the start. -/
def mine (c : Dev nD) : sProp 𝕄 :=
  iprop(atPos ER (barC c) 0 ∅ 0 ∗ dutyTok ER (barC (left c)) 0 true ∗ dutyTok ER (barC (right c)) 0 false ∗ cred (tallyAt (barC c) () 2)
    ∗ (seps (tkR c) early ∗ tkR c 14) ∗ seps (tkG c) allSteps)

/-- What the body starts from. -/
def bodyIn (c : Dev nD) : sProp 𝕄 :=
  iprop(recs V K ∗ mine c
    ∗ ((∃ f, ptT c Finset.univ f) ∗ (∃ f, ptB c Finset.univ f) ∗ (∃ f, ctT c Finset.univ f) ∗ ∃ f, ctB c Finset.univ f)
    ∗ ops V c ∗ (∃ f, outP c Finset.univ f) ∗ ∃ W, owes (c : Thread nD τ) (owe₀ c) W)

/-- What it leaves: every counter at zero, nothing owed, the result written. -/
def bodyOut (c : Dev nD) : sProp 𝕄 :=
  iprop((semVal (barC c) 0 ∗ (seps (dnR c) early ∗ dnR c 14) ∗ seps (dnG c) allSteps)
    ∗ ((∃ f, ptT c Finset.univ f) ∗ (∃ f, ptB c Finset.univ f) ∗ (∃ f, ctT c Finset.univ f) ∗ ∃ f, ctB c Finset.univ f)
    ∗ ops V c ∗ outP c Finset.univ (res V) ∗ ow c [])

theorem bodySteps_wp (c : Dev nD) (Q : PUnit → sProp 𝕄) : iprop(bodyIn V K c ∗ (bodyOut V c -∗ Q ⟨⟩)) ⊢ run c bodySteps Q := by
  unfold run bodySteps bodyIn mine
  simp only [Prog.lift, Prog.bind_op, Prog.bind_ret, wp_deviceId, wp_bind]
  iintro ⟨⟨#HR, ⟨Hat, HtL, HtR, Hc, ⟨HtkR, HtkL⟩, HtkG⟩, ⟨Hp, Hq, ⟨%fl, Hl⟩, ⟨%fm, Hm⟩⟩, Ho, ⟨%fo, Hout⟩, HO⟩, HQ⟩
  icases (cutOut c (p := fun k => k < 16) (q := fun k => k < 16) (fun _ h => h) (fun _ h => h) fo).1 $$ Hout with ⟨HoT, HoB⟩
  icases (cutOT c (p1 := fun k => k < 15) (p2 := fun k => k = 15) (fun _ h => by omega) fo).1 $$ HoT with ⟨HoT, HoT'⟩
  icases (cutOB c (p1 := fun k => k < 15) (p2 := fun k => k = 15) (fun _ h => by omega) fo).1 $$ HoB with ⟨HoB, HoB'⟩
  iapply (handshake_wp V K c)
  isplitr; · iexact HR
  isplitl [Hat]; · iexact Hat
  isplitl [HtL]; · iexact HtL
  isplitl [HtR]; · iexact HtR
  isplitl [Hc]; · iexact Hc
  isplitl [Hl HoT]
  · rw [setC_all fun _ _ => trivial]
    isplitl [Hl]; · iexists fl; iexact Hl
    iexists fo; iexact HoT
  isplitl [Hm HoB]
  · rw [setC_all fun _ _ => trivial]
    isplitl [Hm]; · iexists fm; iexact Hm
    iexists fo; iexact HoB
  isplitl [HO]; · iexact HO
  iintro ⟨HO, Hz, HpB, HpT⟩
  unfold barPay
  icases HpT with ⟨HlT, HnT⟩
  icases HpB with ⟨HlB, HnB⟩
  icases (startT c) $$ Hp with ⟨Hp01, Hp⟩
  icases (startB c) $$ Hq with ⟨Hq01, Hq⟩
  iapply (firstTiles_wp V c)
  isplitl [Ho]; · iexact Ho
  isplitl [Hp01]; · iexact Hp01
  isplitl [Hq01]; · iexact Hq01
  iintro ⟨Ho, Hp01, Hq01⟩
  iapply (steps_wp c (rsStep c) (rsI V K c) (tkR c) (dnR c) early
    (fun s hs Q => rsStep_wp V K c s ((show ∀ s ∈ early, s.val < 14 by decide) s hs) Q) 0 (by repeat' constructor))
  isplitl [Ho Hp01 Hp Hq01 Hq HlT HlB HO]
  · unfold rsI
    isplitr; · iexact HR
    isplitl [Ho]; · iexact Ho
    isplitl [Hp01 Hp HlT]
    · iapply (RT_start V c)
      isplitl [Hp01]; · iexact Hp01
      isplitl [Hp] <;> iassumption
    isplitr [HO]
    · iapply (RB_start V c)
      isplitl [Hq01]; · iexact Hq01
      isplitl [Hq] <;> iassumption
    iexact HO
  isplitl [HtkR]; · iexact HtkR
  iintro ⟨HI, HdR⟩
  iapply (rsLast_wp V K c)
  isplitl [HI]; · iexact HI
  isplitl [HtkL]; · iapply (Entails.of_eq (show tkR (F := F) c 14 = iprop(tk c (0, 14) ∗ tk c (1, 14)) from rfl)); iexact HtkL
  iintro ⟨-, Ho, ⟨Hp, Hl⟩, ⟨Hq, Hm⟩, HO, HdL⟩
  iapply (handOver_wp V c)
  isplitl [Hp]; · iexact Hp
  isplitl [Hq]; · iexact Hq
  isplitl [HoT']; · iexists fo; iexact HoT'
  isplitl [HoB']; · iexists fo; iexact HoB'
  iintro ⟨Hp, Hq, HoT, HoB⟩
  iapply (steps_wp c (agStep c) (agI V K c) (tkG c) (dnG c) allSteps
    (fun s hs Q => agStep_wp V K c s Q) 0 (by repeat' constructor))
  isplitl [HoT HnT HoB HnB HO]
  · unfold agI
    isplitr; · iexact HR
    isplitl [HoT HnT]
    · iapply (GT_start V c)
      isplitl [HoT] <;> iassumption
    isplitr [HO]
    · iapply (GB_start V c)
      isplitl [HoB] <;> iassumption
    iexact HO
  isplitl [HtkG]; · iexact HtkG
  iintro ⟨HI, HdG⟩
  iapply HQ
  unfold agI bodyOut GT GB
  icases HI with ⟨-, ⟨HoT, -⟩, ⟨HoB, -⟩, HO⟩
  isplitl [Hz HdR HdL HdG]
  · isplitl [Hz]; · iexact Hz
    isplitl [HdR HdL]
    · isplitl [HdR]; · iexact HdR
      iapply (Entails.of_eq (show iprop(dn c (0, 14) ∗ dn c (1, 14)) = dnR (F := F) c 14 from rfl)); iexact HdL
    iexact HdG
  isplitl [Hp Hq Hl Hm]
  · rw [setT_all c (p := fun j => j ≤ 15) (fun _ h => by omega), setB_all c (p := fun j => j ≤ 15) (fun _ h => by omega), setC_all (p := fun j => j < 15) (fun _ h => h)]
    isplitl [Hp]; · iexists _; iexact Hp
    isplitl [Hq]; · iexists _; iexact Hq
    isplitl [Hl]; · iexists _; iexact Hl
    iexists _; iexact Hm
  isplitl [Ho]; · iexact Ho
  isplitr [HO]
  · iapply (cutOut c (p := fun k => k = 15 ∨ k < 0 + allSteps.length) (q := fun k => k = 15 ∨ k < 0 + allSteps.length)
      (fun k h => by simp only [List.length_cons, List.length_nil]; omega) (fun k h => by simp only [List.length_cons, List.length_nil]; omega) (res V)).2
    isplitl [HoT] <;> iassumption
  iexact HO

/-- The printed body from `bodyIn` to `bodyOut`. -/
theorem body_wp (c : Dev nD) (Q : PUnit → sProp 𝕄) : iprop(bodyIn V K c ∗ (bodyOut V c -∗ Q ⟨⟩)) ⊢ run c bodyPrinted Q := by
  rw [body_eq_steps]; exact bodySteps_wp V K c Q

end Cert.KernelIdealProof

end
-- ==== Proof.Deal.lean ====
/-
# Dealing the cells

The semaphore cells enumerated wire by wire, and what each device is dealt of them at the launch.
-/
module

public import proofs.«01_k».proof.Proof.Body
public import proofs.«01_k».proof.Proof.Gen.KernelIdeal.Launch
public import Idealize.ShloMosaic.Lib.Pipeline.BigSepL

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells in the order the body uses them -/

abbrev wR (s : Fin 15) : List (Fin 4 × Fin 15) := [(0, s), (1, s)]
abbrev wG (s : Fin 15) : List (Fin 4 × Fin 15) := [(2, s), (3, s)]
abbrev pair (ws : Fin 4 × Fin 15) : List (Fin 121) := [iS ws.1 ws.2, iR ws.1 ws.2]
abbrev order : List (Fin 121) := iB :: ((early.flatMap wR ++ wR 14) ++ allSteps.flatMap wG).flatMap pair

theorem order_all : Finset.univ = order.toFinset := by decide +kernel
theorem order_nodup : order.Nodup := by decide +kernel

theorem bigSepL_flatMap {I J : Type} (f : I → List J) (l : List I) (Φ : J → sProp 𝕄) :
    bigSepL (l.flatMap f) Φ = bigSepL l fun i => bigSepL (f i) Φ := by
  induction l with
  | nil => rfl
  | cons i l ih => rw [List.flatMap_cons, bigSepL_append, bigSepL_cons, ih]; rfl
theorem seps_eq {I : Type} (Φ : I → sProp 𝕄) (l : List I) : seps Φ l = bigSepL l Φ := by
  induction l with
  | nil => rfl
  | cons i l ih => rw [bigSepL_cons, ← ih]; rfl

/-- A family over all cells, by the barrier, the reduce steps and the gather steps. -/
theorem by_wire (Φ : Fin 121 → sProp 𝕄) (Ψ : Fin 4 × Fin 15 → sProp 𝕄) (h : ∀ ws, iprop(Φ (iS ws.1 ws.2) ∗ Φ (iR ws.1 ws.2)) = Ψ ws) :
    bigSep Finset.univ Φ = iprop(Φ iB ∗ (seps (fun s => iprop(Ψ (0, s) ∗ Ψ (1, s))) early ∗ (Ψ (0, 14) ∗ Ψ (1, 14)))
      ∗ seps (fun s => iprop(Ψ (2, s) ∗ Ψ (3, s))) allSteps) := by
  rw [bigSep_univ_eq_bigSepL order order_all order_nodup, bigSepL_cons, bigSepL_flatMap, bigSepL_append, bigSepL_append, bigSepL_flatMap, bigSepL_flatMap, seps_eq, seps_eq]
  rw [show (fun ws => bigSepL (pair ws) Φ) = Ψ from funext fun ws => h ws]
  rfl

/-! ## Whom a device pays -/

/-- The device whose cell `i` device `c` pays into. -/
def payTo (i : Fin 121) (c : Dev nD) : Dev nD :=
  if i.val = 120 then right c else if i.val % 30 < 15 then c else if (i.val / 30) % 2 = 0 then right c else left c
def payBy (i : Fin 121) (c : Dev nD) : Dev nD :=
  if i.val = 120 then left c else if i.val % 30 < 15 then c else if (i.val / 30) % 2 = 0 then left c else right c
def payE (i : Fin 121) : Dev nD ≃ Dev nD where
  toFun := payTo i
  invFun := payBy i
  left_inv := by revert i; decide +kernel
  right_inv := by revert i; decide +kernel
theorem payTo_iS (w : Fin 4) (s : Fin 15) (c : Dev nD) : payTo (iS w s) c = c := by revert w s c; decide +kernel
theorem payTo_iR (w : Fin 4) (s : Fin 15) (c : Dev nD) : payTo (iR w s) c = fwd w c := by revert w s c; decide +kernel
theorem payTo_iB (c : Dev nD) : payTo iB c = right c := by revert c; decide +kernel
def leftE : Dev nD ≃ Dev nD where
  toFun := left
  invFun := right
  left_inv := by decide +kernel
  right_inv := by decide +kernel

/-! ## The launch credit -/

theorem rcvS_inj {w w' : Fin 4} {s s' : Fin 15} (h : rcvS w s = rcvS w' s') : (w, s) = (w', s') := by
  have h := congrArg Fin.val h
  rw [rcvS_val, rcvS_val] at h
  exact Prod.ext (Fin.ext (by show w.val = w'.val; omega)) (Fin.ext (by show s.val = s'.val; omega))
theorem rcvC_eq_iff {c d : Dev nD} {w w' : Fin 4} {s s' : Fin 15} : rcvC c w s = rcvC d w' s' ↔ c = d ∧ (w, s) = (w', s') := by
  constructor
  · intro h
    refine ⟨Fin.ext (congrArg (fun g : GSem nD τ sig => g.1.1.val) h), rcvS_inj ?_⟩
    have := congrArg Prod.snd h
    simpa using this
  · rintro ⟨rfl, h⟩; cases h; rfl
theorem barC_eq_iff {c d : Dev nD} : barC c = barC d ↔ c = d :=
  ⟨fun h => Fin.ext (congrArg (fun g : GSem nD τ sig => g.1.1.val) h), fun h => h ▸ rfl⟩

/-- What device `d` owes device `c`'s receive cells for a list of copies. -/
theorem owe_rcv (d c : Dev nD) (w : Fin 4) (s : Fin 15) (l : List (Fin 4 × Fin 15)) :
    owe d l (rcvC c w s) () = if d = bwd w c then l.count (w, s) * N else 0 := by
  induction l with
  | nil => unfold owe; rw [List.count_nil, Nat.zero_mul, ite_self]; rfl
  | cons ws l ih =>
    unfold owe
    rw [Pi.add_apply, Finsupp.add_apply, tallyAt_apply, ih, List.count_cons]
    by_cases hd : d = bwd w c
    · subst hd
      by_cases hw : ws = (w, s)
      · subst hw; rw [if_pos rfl, if_pos ⟨rcvC_eq_iff.2 ⟨(fwd_bwd w c).symm, rfl⟩, rfl⟩, if_pos rfl, if_pos (beq_self_eq_true _), Nat.add_mul, Nat.one_mul]
      · rw [if_pos rfl, if_neg fun h => hw (rcvC_eq_iff.1 h.1).2.symm, if_pos rfl, if_neg (by simpa using hw), Nat.add_zero, Nat.add_zero]
    · rw [if_neg hd, if_neg hd, if_neg fun h => ?_]
      obtain ⟨h1, h2⟩ := rcvC_eq_iff.1 h.1
      obtain rfl : ws = (w, s) := h2.symm
      apply hd; rw [h1, bwd_fwd]

theorem owe_bar (d c : Dev nD) (l : List (Fin 4 × Fin 15)) : owe d l (barC c) () = 0 := by
  refine Nat.eq_zero_of_not_pos fun h => ?_
  obtain ⟨ws, -, h⟩ := owe_pos h
  have := congrArg Prod.snd h
  cases this

theorem owed_rcv (d c : Dev nD) (w : Fin 4) (s : Fin 15) : owe₀ d (rcvC c w s) () = if d = bwd w c then N else 0 := by
  unfold owe₀ oweR
  rw [Pi.add_apply, Finsupp.add_apply, Pi.add_apply, Finsupp.add_apply, owe_rcv,
    tallyAt_ne_cell (fun h => by cases congrArg Prod.snd h), tallyAt_ne_cell (fun h => by cases congrArg Prod.snd h), Finsupp.zero_apply, Nat.add_zero, Nat.add_zero,
    show allCopies.count (w, s) = 1 by revert w s; decide +kernel, Nat.one_mul]
theorem owed_bar (d c : Dev nD) : owe₀ d (barC c) () = (if d = left c then 1 else 0) + (if d = right c then 1 else 0) := by
  have hl : ∀ a b : Dev nD, a = right b ↔ b = left a := by decide +kernel
  have hr : ∀ a b : Dev nD, a = left b ↔ b = right a := by decide +kernel
  unfold owe₀ oweR
  rw [Pi.add_apply, Finsupp.add_apply, Pi.add_apply, Finsupp.add_apply, owe_bar, Nat.zero_add, tallyAt_apply, tallyAt_apply]
  congr 1
  · exact if_congr ⟨fun h => (hl _ _).1 (barC_eq_iff.1 h.1), fun h => ⟨barC_eq_iff.2 ((hl _ _).2 h), rfl⟩⟩ rfl rfl
  · exact if_congr ⟨fun h => (hr _ _).1 (barC_eq_iff.1 h.1), fun h => ⟨barC_eq_iff.2 ((hr _ _).2 h), rfl⟩⟩ rfl rfl

/-- The credit the launch deals device `c` on its cell `i`. -/
def credOf (c : Dev nD) (i : Fin 121) : sProp 𝕄 := cred (tallyOn (kcell (c, i)) (launchCredit (Pipeline.owing owe₀) 0 (kcell (c, i))))
theorem credOf_iR (c : Dev nD) (w : Fin 4) (s : Fin 15) : credOf (F := F) c (iR w s) = cred (tallyAt (rcvC c w s) () N) := by
  unfold credOf kcell tallyAt
  rw [csem_iR]
  refine congrArg (fun x => cred (tallyOn (rcvC c w s) x)) (Finsupp.ext fun u => ?_)
  cases u
  rw [Pipeline.launchCredit_owing, Finsupp.single_eq_same, Finset.sum_congr rfl fun d _ => owed_rcv d c w s, Finset.sum_ite_eq' Finset.univ (bwd w c) fun _ => N,
    if_pos (Finset.mem_univ _)]
theorem credOf_iB (c : Dev nD) : credOf (F := F) c iB = cred (tallyAt (barC c) () 2) := by
  unfold credOf kcell tallyAt
  rw [csem_iB]
  refine congrArg (fun x => cred (tallyOn (barC c) x)) (Finsupp.ext fun u => ?_)
  cases u
  rw [Pipeline.launchCredit_owing, Finsupp.single_eq_same, Finset.sum_congr rfl fun d _ => owed_bar d c, Finset.sum_add_distrib,
    Finset.sum_ite_eq' Finset.univ (left c) fun _ => 1, Finset.sum_ite_eq' Finset.univ (right c) fun _ => 1, if_pos (Finset.mem_univ _), if_pos (Finset.mem_univ _)]

theorem csem_inj : Function.Injective csem := by
  intro i j h
  unfold csem at h
  split at h <;> split at h
  · have h := congrArg Fin.val (SemLoc.dma.inj h)
    exact Fin.ext (by simpa using h)
  · cases h
  · cases h
  · exact Fin.ext (by omega)
theorem kcell_inj : Function.Injective kcell := by
  rintro ⟨c, i⟩ ⟨c', i'⟩ h
  have h1 : c = c' := Fin.ext (congrArg (fun g : GSem nD τ sig => g.1.1.val) h)
  have h2 : i = i' := csem_inj (congrArg Prod.snd h)
  rw [h1, h2]

theorem creds (c : Dev nD) : (Pipeline.launchCred owe₀ c : sProp 𝕄) ⊢ bigSep Finset.univ (credOf c) := by
  unfold Pipeline.launchCred
  refine (BI.bigSep_subset (Finset.subset_univ (Finset.univ.map ⟨csem, csem_inj⟩))).trans ?_
  rw [bigSep_map]
  exact BI.Entails.refl _

/-! ## What is dealt -/

def cells : Finset (GSem nD τ sig) := Finset.univ.map ⟨kcell, kcell_inj⟩
abbrev tokOf (x : Dev nD × Fin 121 × Bool) : GSem nD τ sig × ℕ × Bool := (kcell (x.1, x.2.1), 0, x.2.2)
theorem tokOf_inj : Function.Injective tokOf := by
  rintro ⟨c, i, d⟩ ⟨c', i', d'⟩ h
  have h1 := kcell_inj (congrArg Prod.fst h)
  have h2 : d = d' := congrArg (fun x : GSem nD τ sig × ℕ × Bool => x.2.2) h
  cases h1; rw [h2]
def toks : Finset (GSem nD τ sig × ℕ × Bool) := Finset.univ.map ⟨tokOf, tokOf_inj⟩

def u₀ : UU := (initOf (Pipeline.cells cfgs cellOf_inj) (Pipeline.launchToks cfgs cellOf_inj), initOf cells toks)

section
variable (V : Operands F)

/-- What the launch makes for device `c`: its cells' states, its positions, its cells' tokens. -/
def G (c : Dev nD) : sProp 𝕄 :=
  iprop((bigSep Finset.univ fun i : Fin 121 => roundState ER (sched V) (kcell (c, i)) 0)
    ∗ (bigSep Finset.univ fun i : Fin 121 => iprop(atPos ER (kcell (c, i)) 0 ∅ 0 ∗ reached ER (kcell (c, i)) 0))
    ∗ bigSep Finset.univ fun x : Fin 121 × Bool => dutyTok ER (kcell (c, x.1)) 0 x.2)

theorem fund_cells : BI.own (ER (initOf cells toks)) ⊢ (|==> bigSep Finset.univ (G V) : sProp 𝕄) := by
  have hX (Φ : GSem nD τ sig → sProp 𝕄) : bigSep cells Φ = bigSep Finset.univ fun c : Dev nD => bigSep Finset.univ fun i : Fin 121 => Φ (kcell (c, i)) := by
    unfold cells; rw [bigSep_map, bigSep_univ_prod]; rfl
  have hT : bigSep toks (fun x => (dutyTok ER x.1 x.2.1 x.2.2 : sProp 𝕄))
      = bigSep Finset.univ fun c : Dev nD => bigSep Finset.univ fun x : Fin 121 × Bool => dutyTok ER (kcell (c, x.1)) 0 x.2 := by
    unfold toks; rw [bigSep_map, bigSep_univ_prod]; rfl
  iintro HX
  imod (Rounds.fund ER (sched V) cells toks) $$ HX with ⟨Hst, Hr, Hat, Htok⟩
  imodintro
  ihave Hst' := (Entails.of_eq (hX fun g => roundState ER (sched V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

end

/-! ## The counters -/

abbrev osem : Fin 120 → SemLoc sig := fun i => .dma ⟨4 + i.val, by show 4 + i.val < 124; omega⟩
theorem csem_castSucc (i : Fin 120) : csem (Fin.castSucc i) = osem i := by
  unfold csem; exact dif_pos i.isLt

theorem unscopedSems0_eq (c : Dev nD) : (unscopedSems0 c : sProp 𝕄) = semVal (barC c) 0 := by
  unfold unscopedSems0; rw [bigSep_eq_bigSepL_of_eq [SemLoc.reg barS] (by decide +kernel) (by decide +kernel)]; rfl

/-- The kernel's own counters and the barrier's are all the cells' counters. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun i : Fin 121 => semVal (kcell (c, i)) 0 : sProp 𝕄) := by
  rw [unscopedSems0_eq]
  unfold Pipeline.ownSems0
  rw [show (Finset.univ : Finset (Fin 121)) = insert iB (Finset.univ.map Fin.castSuccEmb) by decide +kernel,
    bigSep_insert (by decide +kernel), bigSep_map]
  congr 1

end Cert.KernelIdealProof

end
-- ==== Proof.Run.lean ====
/-
# The launch and the run

Every device's cells allocated in one step, each device handed the tokens of the duties it pays, and the run of the
whole program from any memory.
-/
module

public import proofs.«01_k».proof.Proof.Deal
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section
variable (V : Operands F)

/-! ## One device's cells allocated -/

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun i => iprop(∃ κ : ℕ, cellInv ER (sched V) κ (kcell (c, i))))
          ∗ (bigSep Finset.univ fun i : Fin 121 => iprop(atPos ER (kcell (c, i)) 0 ∅ 0 ∗ reached ER (kcell (c, i)) 0))
          ∗ bigSep Finset.univ fun x : Fin 121 × Bool => dutyTok ER (kcell (c, x.1)) 0 x.2) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun i : Fin 121 => semVal (kcell (c, i)) 0) ∗ bigSep Finset.univ fun i : Fin 121 => roundState ER (sched V) (kcell (c, i)) 0)
      ⊢ (|={Set.univ}=> bigSep Finset.univ fun i => iprop(∃ κ : ℕ, cellInv ER (sched V) κ (kcell (c, i))) : sProp 𝕄) from by
        rw [← bigSep_sep']
        exact (bigSep_mono fun i _ => (Rounds.body_intro ER (sched V) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens handed to whom they are paid by -/

/-- Device `c`'s share of the tokens and positions, before its credit. -/
def linear (c : Dev nD) : sProp 𝕄 :=
  iprop((bigSep Finset.univ fun i : Fin 121 => iprop(atPos ER (kcell (c, i)) 0 ∅ 0 ∗ dutyTok ER (kcell (payTo i c, i)) 0 false)) ∗ dutyTok ER (barC (left c)) 0 true)

theorem tok_true (c : Dev nD) : (bigSep Finset.univ fun i : Fin 121 => (dutyTok ER (kcell (c, i)) 0 true : sProp 𝕄)) ⊢ dutyTok ER (kcell (c, iB)) 0 true :=
  bigSep_elim (Finset.mem_univ iB)
theorem tok_bool (c : Dev nD) : (bigSep Finset.univ fun x : Fin 121 × Bool => (dutyTok ER (kcell (c, x.1)) 0 x.2 : sProp 𝕄))
    = iprop((bigSep Finset.univ fun i : Fin 121 => dutyTok ER (kcell (c, i)) 0 false) ∗ bigSep Finset.univ fun i : Fin 121 => dutyTok ER (kcell (c, i)) 0 true) := by
  rw [bigSep_univ_prod, ← bigSep_sep']
  refine bigSep_congr fun i _ => ?_
  rw [bigSep_univ_eq_bigSepL [false, true] (by decide) (by decide)]; rfl
theorem toks_around :
    (bigSep Finset.univ fun c : Dev nD => iprop((bigSep Finset.univ fun i : Fin 121 => (dutyTok ER (kcell (c, i)) 0 false : sProp 𝕄)) ∗ dutyTok ER (kcell (c, iB)) 0 true))
      = bigSep Finset.univ fun c : Dev nD => iprop((bigSep Finset.univ fun i : Fin 121 => dutyTok ER (kcell (payTo i c, i)) 0 false) ∗ dutyTok ER (barC (left c)) 0 true) := by
  rw [bigSep_sep', bigSep_sep', bigSep_univ_comm (fun (c : Dev nD) (i : Fin 121) => (dutyTok ER (kcell (c, i)) 0 false : sProp 𝕄)),
    bigSep_univ_comm (fun (c : Dev nD) (i : Fin 121) => (dutyTok ER (kcell (payTo i c, i)) 0 false : sProp 𝕄)),
    bigSep_congr (s := Finset.univ) (fun (i : Fin 121) _ => bigSep_univ_equiv (payE i) (fun c : Dev nD => (dutyTok ER (kcell (c, i)) 0 false : sProp 𝕄))),
    bigSep_univ_equiv leftE (fun c : Dev nD => (dutyTok ER (kcell (c, iB)) 0 true : sProp 𝕄))]
  unfold kcell; simp only [csem_iB]; rfl

theorem toks_deal :
    (bigSep Finset.univ fun c : Dev nD => iprop((bigSep Finset.univ fun i : Fin 121 => (dutyTok ER (kcell (c, i)) 0 false : sProp 𝕄))
        ∗ bigSep Finset.univ fun i : Fin 121 => dutyTok ER (kcell (c, i)) 0 true))
      ⊢ bigSep Finset.univ fun c : Dev nD => iprop((bigSep Finset.univ fun i : Fin 121 => dutyTok ER (kcell (payTo i c, i)) 0 false) ∗ dutyTok ER (barC (left c)) 0 true) :=
  (bigSep_mono fun c _ => sep_mono_right (tok_true (F := F) c)).trans (Entails.of_eq toks_around)

/-- What the global step makes of a device's share. -/
def G' (c : Dev nD) : sProp 𝕄 :=
  iprop(∃ K : Dev nD × Fin 121 → ℕ, ((bigSep Finset.univ fun ck : Dev nD × Fin 121 => cellInv ER (sched V) (K ck) (kcell ck))
    ∗ bigSep Finset.univ fun ck : Dev nD × Fin 121 => reached ER (kcell ck) 0) ∗ linear c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Fin 121 → ℕ) (c : Dev nD) :
    iprop(((bigSep Finset.univ fun ck : Dev nD × Fin 121 => cellInv ER (sched V) (K ck) (kcell ck)) ∗ bigSep Finset.univ fun ck : Dev nD × Fin 121 => reached ER (kcell ck) 0)
      ∗ linear c) ⊢ G' V c := by
  unfold G'
  iintro H
  iexists K
  iexact H

theorem regroup :
    (bigSep Finset.univ fun c : Dev nD => iprop((bigSep Finset.univ fun i => iprop(∃ κ : ℕ, cellInv ER (sched V) κ (kcell (c, i))))
          ∗ (bigSep Finset.univ fun i : Fin 121 => iprop(atPos ER (kcell (c, i)) 0 ∅ 0 ∗ reached ER (kcell (c, i)) 0))
          ∗ bigSep Finset.univ fun x : Fin 121 × Bool => dutyTok ER (kcell (c, x.1)) 0 x.2) : sProp 𝕄)
      ⊢ bigSep Finset.univ (G' V) := by
  rw [bigSep_sep', bigSep_sep', ← bigSep_univ_prod (fun ck : Dev nD × Fin 121 => iprop(∃ κ : ℕ, cellInv ER (sched V) κ (kcell ck))),
    bigSep_congr (s := Finset.univ) (fun (c : Dev nD) _ => bigSep_sep' Finset.univ (fun i : Fin 121 => (atPos ER (kcell (c, i)) 0 ∅ 0 : sProp 𝕄)) (fun i => reached ER (kcell (c, i)) 0)),
    bigSep_sep', ← bigSep_univ_prod (fun ck : Dev nD × Fin 121 => (reached ER (kcell ck) 0 : sProp 𝕄)),
    bigSep_congr (s := Finset.univ) (fun (c : Dev nD) _ => tok_bool c)]
  iintro ⟨HI, ⟨Hat, #HR⟩, Htok⟩
  ihave HK := (BI.bigSep_exists_pi Finset.univ (fun (ck : Dev nD × Fin 121) (κ : ℕ) => (cellInv ER (sched V) κ (kcell ck) : sProp 𝕄))) $$ HI
  icases HK with ⟨%K, #HI⟩
  ihave Htk := (toks_deal (F := F)) $$ Htok
  iapply (bigSep_with_persistent fun c _ => G'_intro V K c)
  isplitr
  · isplitl; · iexact HI
    iexact HR
  · iapply ((Entails.of_eq (bigSep_sep' Finset.univ (fun c : Dev nD => bigSep Finset.univ fun i : Fin 121 => (atPos ER (kcell (c, i)) 0 ∅ 0 : sProp 𝕄))
        (fun c : Dev nD => iprop((bigSep Finset.univ fun i : Fin 121 => dutyTok ER (kcell (payTo i c, i)) 0 false) ∗ dutyTok ER (barC (left c)) 0 true))).symm).trans
      (bigSep_mono fun c _ => show _ ⊢ linear c from by unfold linear; rw [bigSep_sep']; exact sep_assoc'))
    isplitl [Hat]; · iexact Hat
    iexact Htk

/-- Every device's counters and shares at once. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## A device's start -/

theorem mine_intro (c : Dev nD) : iprop(linear c ∗ bigSep Finset.univ (credOf c)) ⊢ (mine c : sProp 𝕄) := by
  have h2 : ∀ ws : Fin 4 × Fin 15,
      iprop(((atPos ER (kcell (c, iS ws.1 ws.2)) 0 ∅ 0 ∗ dutyTok ER (kcell (payTo (iS ws.1 ws.2) c, iS ws.1 ws.2)) 0 false) ∗ credOf c (iS ws.1 ws.2))
          ∗ ((atPos ER (kcell (c, iR ws.1 ws.2)) 0 ∅ 0 ∗ dutyTok ER (kcell (payTo (iR ws.1 ws.2) c, iR ws.1 ws.2)) 0 false) ∗ credOf c (iR ws.1 ws.2)))
        ⊢ (tk c ws : sProp 𝕄) := by
    rintro ⟨w, s⟩
    rw [credOf_iR, payTo_iS, payTo_iR]
    unfold kcell tk
    simp only [csem_iS, csem_iR]
    iintro ⟨⟨⟨H1, H2⟩, -⟩, ⟨H3, H4⟩, H5⟩
    isplitl [H1]; · iexact H1
    isplitl [H3]; · iexact H3
    isplitl [H2]; · iexact H2
    isplitl [H4]; · iexact H4
    iexact H5
  have hs : ∀ (f g : Fin 15 → sProp 𝕄) (h : ∀ s, f s ⊢ g s) (l : List (Fin 15)), seps f l ⊢ seps g l := by
    intro f g h l
    induction l with
    | nil => exact BI.Entails.refl _
    | cons s l ih => exact BI.sep_mono (h s) ih
  have hd : iprop((bigSep Finset.univ fun i : Fin 121 => iprop(atPos ER (kcell (c, i)) 0 ∅ 0 ∗ dutyTok ER (kcell (payTo i c, i)) 0 false)) ∗ bigSep Finset.univ (credOf (F := F) c))
      ⊢ (iprop(((atPos ER (kcell (c, iB)) 0 ∅ 0 ∗ dutyTok ER (kcell (payTo iB c, iB)) 0 false) ∗ credOf c iB)
        ∗ (seps (tkR c) early ∗ tkR c 14) ∗ seps (tkG c) allSteps) : sProp 𝕄) := by
    rw [← bigSep_sep', by_wire (fun i : Fin 121 => iprop((atPos ER (kcell (c, i)) 0 ∅ 0 ∗ dutyTok ER (kcell (payTo i c, i)) 0 false) ∗ credOf (F := F) c i)) _ fun _ => rfl]
    exact sep_mono_right (BI.sep_mono (BI.sep_mono (hs _ (tkR c) (fun s => BI.sep_mono (h2 (0, s)) (h2 (1, s))) _) (show _ ⊢ tkR c 14 from BI.sep_mono (h2 (0, 14)) (h2 (1, 14))))
      (hs _ (tkG c) (fun s => BI.sep_mono (h2 (2, s)) (h2 (3, s))) _))
  unfold linear
  iintro ⟨⟨H, Ht⟩, Hc⟩
  ihave H := hd $$ [H Hc]
  · isplitl [H] <;> iassumption
  icases H with ⟨⟨⟨Ha, Hb⟩, Hc⟩, Hr, Hg⟩
  unfold mine
  isplitl [Ha]
  · iapply (Entails.of_eq (show (atPos ER (kcell (c, iB)) 0 ∅ 0 : sProp 𝕄) = atPos ER (barC c) 0 ∅ 0 by unfold kcell; rw [csem_iB])); iexact Ha
  isplitl [Ht]; · iexact Ht
  isplitl [Hb]
  · iapply (Entails.of_eq (show (dutyTok ER (kcell (payTo iB c, iB)) 0 false : sProp 𝕄) = dutyTok ER (barC (right c)) 0 false by rw [payTo_iB]; unfold kcell; rw [csem_iB])); iexact Hb
  isplitl [Hc]; · iapply (Entails.of_eq (credOf_iB (F := F) c)); iexact Hc
  isplitl [Hr]; · iexact Hr
  iexact Hg

theorem sems_exit (c : Dev nD) :
    iprop(semVal (barC c) 0 ∗ (seps (dnR c) early ∗ dnR c 14) ∗ seps (dnG c) allSteps)
      = iprop(unscopedSems0 c ∗ Pipeline.ownSems0 (Ix := Unit) (Name := ℕ) (U := UU) (Lvl := ℕ) (Val := Elt F) (τ := τ) osem c) := by
  rw [sems0_eq, by_wire (fun i : Fin 121 => (semVal (kcell (c, i)) 0 : sProp 𝕄)) (dn c) fun ws => by
    unfold kcell dn; rw [csem_iS, csem_iR]]
  unfold kcell; rw [csem_iB]; rfl

end

/-! ## The pipeline's data -/

section
variable (m : (ℓ : Loc nD τ sig) → Buf (Elt F) ℓ) (ρ : Dev nD → PrngReg)

/-- The operands as the fetches stage them. -/
def opsOf : Operands F where
  x c := (win0_0.blk (0 : Fin 1)).view.read (Elt F) (m ((c : Thread nD τ).loc main_arg0))
  w1 c := (win0_1.blk (0 : Fin 1)).view.read (Elt F) (m ((c : Thread nD τ).loc main_arg1))
  w2 c := (win0_2.blk (0 : Fin 1)).view.read (Elt F) (m ((c : Thread nD τ).loc main_arg2))

/-- The four scratch buffers, at any contents. -/
def scratch (c : Dev nD) : sProp 𝕄 :=
  iprop((∃ f, ptT c Finset.univ f) ∗ (∃ f, ptB c Finset.univ f) ∗ (∃ f, ctT c Finset.univ f) ∗ ∃ f, ctB c Finset.univ f)

def start (c : Dev nD) : sProp 𝕄 := iprop(∃ K, recs (opsOf m) K ∗ mine c)
def Φ₀ (c : Dev nD) : sProp 𝕄 := iprop(start m c ∗ scratch c)
def Φ₁ (c : Dev nD) : sProp 𝕄 := iprop((semVal (barC c) 0 ∗ (seps (dnR c) early ∗ dnR c 14) ∗ seps (dnG c) allSteps) ∗ scratch c)

def dats (_ : Fin 1) (c : Dev nD) : Dat τ (Elt F) Unit ℕ UU ℕ cfg0 c where
  A w := m ((cfg0.win w).arr.view.loc (c : Thread nD τ))
  after w _ := match w with
    | ⟨0, _⟩ => (opsOf m).x c
    | ⟨1, _⟩ => (opsOf m).w1 c
    | ⟨2, _⟩ => (opsOf m).w2 c
    | ⟨3, _⟩ => res (opsOf m)
  Φ t := match t with
    | ⟨0, _⟩ => Φ₀ m c
    | ⟨_ + 1, _⟩ => Φ₁ c
  q _ := fullShare
  owed t := match t with
    | ⟨0, _⟩ => owe₀ c
    | ⟨_ + 1, _⟩ => 0

theorem fetch_0 : (cfg0.win (0 : Fin 4)).fetch t0_0 = true := rfl
theorem fetch_1 : (cfg0.win (1 : Fin 4)).fetch t0_0 = true := rfl
theorem fetch_2 : (cfg0.win (2 : Fin 4)).fetch t0_0 = true := rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ c ∗ (dats m 0 c).owesAt () t0_0.succ
    ∗ stg c cc0_stg0_0 ((opsOf m).x c) ∗ stg c cc0_stg1_0 ((opsOf m).w1 c) ∗ stg c cc0_stg2_0 ((opsOf m).w2 c) ∗ stg c cc0_stg3_0 (res (opsOf m)))

theorem body_run (c : Dev nD) : bodyPre m c ⊢ run c bodyPrinted (fun _ => bodyPost m c) := by
  unfold bodyPre Φ₀ start
  iintro ⟨⟨⟨%K, #HR, Hm⟩, Hs⟩, Ho, ⟨%d0, %g0, %h0, H0⟩, ⟨%d1, %g1, %h1, H1⟩, ⟨%d2, %g2, %h2, H2⟩, ⟨%d3, %g3, %h3, H3⟩⟩
  have e0 : g0 = (opsOf m).x c := by rw [h0]; unfold Dat.before; rw [if_pos fetch_0]; rfl
  have e1 : g1 = (opsOf m).w1 c := by rw [h1]; unfold Dat.before; rw [if_pos fetch_1]; rfl
  have e2 : g2 = (opsOf m).w2 c := by rw [h2]; unfold Dat.before; rw [if_pos fetch_2]; rfl
  subst e0 e1 e2
  unfold Dat.owesAt Pipeline.owesWithin
  icases Ho with ⟨%W, %hW, HO⟩
  iapply (body_wp (opsOf m) K c)
  unfold bodyIn
  isplitl [Hm Hs HO H0 H1 H2 H3]
  · isplitr; · iexact HR
    isplitl [Hm]; · iexact Hm
    isplitl [Hs]; · unfold scratch; iexact Hs
    isplitl [H0 H1 H2]
    · unfold ops
      isplitl [H0]; · iexact H0
      isplitl [H1]; · iexact H1
      iexact H2
    isplitl [H3]; · iexists g3; iexact H3
    iexists W; iexact HO
  · unfold bodyOut ops ow bodyPost Φ₁ Dat.owesAt Pipeline.owesWithin scratch
    iintro ⟨Hz, Hs, ⟨H0, H1, H2⟩, H3, ⟨%W', HO⟩⟩
    isplitl [Hz Hs]
    · isplitl [Hz] <;> iassumption
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    iexists _; isplitr; · (ipureintro; rfl)
    iexact H3

set_option maxRecDepth 65536 in
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_run m c

/-! ## The launch's side conditions -/

theorem ownSemFacts : Pipeline.OwnSemFacts cfg0.spec osem where
  isScoped := by decide +kernel
  inj i j h := Fin.ext (by have := congrArg Fin.val (SemLoc.dma.inj h); simpa using this)
  disj i w s h := by
    have h := congrArg Fin.val (SemLoc.dma.inj h)
    have h4 : ∀ (w : Fin 4) (s : Fin (cfg0.spec w).nbuf), ((cfg0.spec w).sem s).val < 4 := by decide
    have := h4 w s
    rw [← h] at this
    exact absurd this (by show ¬ (4 + i.val < 4); omega)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' (opsOf m) c)
      ⊢ |={Set.univ}=> iprop(start m c ∗ emp) := by
  unfold G'
  iintro ⟨-, Hlev, Hcr, -, ⟨%K, ⟨HI, HR⟩, Hl⟩⟩
  ihave Hc := (creds (F := F) c) $$ Hcr
  imodintro
  isplitl
  · unfold start recs
    iexists K
    isplitl [HI HR Hlev]
    · isplitl [HI]; · iexact HI
      isplitl [HR] <;> iassumption
    iapply (mine_intro c)
    isplitl [Hl] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [sems_exit]
  iintro ⟨⟨Hu, Ho⟩, Hr⟩
  isplitl [Hu]; · iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_stage c _ (by fin_cases w <;> fin_cases s <;> decide)
    · rw [show (dats m 0 c).owed ⟨_ + 1, ht⟩ = 0 from rfl, MayWait_zero]; iintro -; iempintro

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 65536 in
/-- From any memory with zero counters every weakly fair execution of the program ends, every window's array at
    its computed contents on every device and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owe₀) (howed₀ := fun _ => rfl) (howedN := fun _ => rfl)
    (L := L) (lv := lv) (hL := L_of_ne) (hwaits := waits m)
    (G := G (opsOf m)) (G' := G' (opsOf m)) (u₀ := u₀)
    (hu₀ := by
      unfold u₀
      iintro Hu
      ihave H := (ownU_pair _ _) $$ Hu
      icases H with ⟨HP, HX⟩
      imod (fund_cells (opsOf m)) $$ HX with HG
      imodintro
      isplitl [HP] <;> iassumption)
    (hglob := glob (opsOf m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_arg0 (c : Dev nD) : finalA m c (0 : Fin 4) = m ((c : Thread nD τ).loc main_arg0) := (dats (F := F) m 0 c).arrAt_in (0 : Fin 4) rfl _
theorem finalA_arg1 (c : Dev nD) : finalA m c (1 : Fin 4) = m ((c : Thread nD τ).loc main_arg1) := (dats (F := F) m 0 c).arrAt_in (1 : Fin 4) rfl _
theorem finalA_arg2 (c : Dev nD) : finalA m c (2 : Fin 4) = m ((c : Thread nD τ).loc main_arg2) := (dats (F := F) m 0 c).arrAt_in (2 : Fin 4) rfl _

/-- The arguments are kept. -/
theorem run_keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c 0).trans (finalA_arg0 m c), (h.1 c 1).trans (finalA_arg1 m c), (h.1 c 2).trans (finalA_arg2 m c)⟩, h.2⟩) (run_main m ρ)

end

end Cert.KernelIdealProof

end
-- ==== Proof.Value.lean ====
/-
# What the result is, over the extended reals

Every element of the result is the sum, over the sixteen devices, of that device's share of the product: the relu of
a row of `x` times the device's columns of the first weight, times the device's rows of the second. The ring adds the
shares in an order that depends on the row; over the extended reals the order does not matter.
-/
module

public import proofs.«01_k».proof.Proof.Contents
public import proofs.«01_k».proof.Proof.Gen.ReferenceIdeal.Run
public import Idealize.ShloMosaic.Lib.Pointwise
public import Idealize.ShloMosaic.Lib.Layout

@[expose] public section

noncomputable section

namespace Cert.KernelIdealProof

open Cert.KernelIdeal Cert.KernelIdeal.Gen
open Idealize.ShloMosaic Idealize.ShloMosaic.TcCoe
open scoped BigOperators

/-! ## The payloads at an index -/

/-- A device's share of one element: a row of `x` through the device's part of both layers. -/
def share (x : Fin 1024 → EReal) (w1 : Fin 1024 → Fin 2048 → EReal) (w2 : Fin 2048 → EReal) : EReal :=
  ∑ k : Fin 2048, max (∑ i : Fin 1024, x i * w1 i k) 0 * w2 k

set_option maxRecDepth 16384 in
theorem pay1_apply (x : Vec Ideal S32x1024 .f32) (w1 : Vec Ideal S1024x2048 .f32) (w2 : Vec Ideal S2048x1024 .f32) (r : Fin 32) (q : Fin 1024) :
    k0_pay1 (F := Ideal) x w1 w2 (ix3 0 r q) = share (fun i => x (ix2 r i)) (fun i k => w1 (ix2 i k)) (fun k => w2 (ix2 k q)) := by
  unfold share
  pointwise [k0_pay1]

set_option maxRecDepth 16384 in
theorem pay9_apply (a b : Vec Ideal S1x32x1024 .f32) (r : Fin 32) (q : Fin 1024) :
    k0_pay9 (F := Ideal) a b (ix3 0 r q) = (a (ix3 0 r q) : EReal) + b (ix3 0 r q) := by
  pointwise [k0_pay9]

/-! ## The running sums -/

theorem behind_left (c : Dev nD) {s : ℕ} (h : s + 1 < 16) : behind (left c) s = behind c (s + 1) := by
  have := pos_lt c; unfold behind; rw [pos_left]; omega
theorem ahead_right (c : Dev nD) (s : ℕ) : ahead (right c) s = ahead c (s + 1) := by
  have := pos_lt c; unfold ahead; rw [pos_right]; omega

variable (V : Operands Ideal)

/-- After `s` additions a device holds the sum, for the chunk `s` behind it, of its own product and those of the `s`
    devices on its left. -/
theorem accT_sum (r : Fin 32) (q : Fin 1024) : ∀ (s : ℕ) (c : Dev nD), s < 16 →
    (accT V s c (ix3 0 r q) : EReal) = ∑ t ∈ Finset.range (s + 1), (partT V (left^[t] c) (behind c s) (ix3 0 r q) : EReal)
  | 0, c, _ => by rw [Finset.sum_range_one]; rfl
  | s + 1, c, h => by
    show (k0_pay9 (F := Ideal) (partT V c (behind c (s + 1))) (accT V s (left c)) (ix3 0 r q) : EReal) = _
    rw [pay9_apply, accT_sum r q s (left c) (by omega), behind_left c h, Finset.sum_range_succ' _ (s + 1), add_comm]
    rfl
theorem accB_sum (r : Fin 32) (q : Fin 1024) : ∀ (s : ℕ) (c : Dev nD),
    (accB V s c (ix3 0 r q) : EReal) = ∑ t ∈ Finset.range (s + 1), (partB V (right^[t] c) (ahead c s) (ix3 0 r q) : EReal)
  | 0, c => by rw [Finset.sum_range_one]; rfl
  | s + 1, c => by
    show (k0_pay9 (F := Ideal) (partB V c (ahead c (s + 1))) (accB V s (right c)) (ix3 0 r q) : EReal) = _
    rw [pay9_apply, accB_sum r q s (right c), ahead_right c s, Finset.sum_range_succ' _ (s + 1), add_comm]
    rfl

theorem pos_ring (j : ℕ) : pos (ring j) = j % 16 := by
  rw [← ring_mod j]
  have h : ∀ i : Fin 16, pos (ring i.val) = i.val := by decide +kernel
  exact h ⟨j % 16, Nat.mod_lt _ (by decide)⟩

/-- Going round the ring from any device meets every device once. -/
theorem pos_lefts (c : Dev nD) : ∀ t : ℕ, pos (left^[t] c) = (pos c + 15 * t) % 16
  | 0 => by have := pos_lt c; show pos c = _; omega
  | t + 1 => by rw [Function.iterate_succ_apply', pos_left, pos_lefts c t]; omega
theorem pos_rights (c : Dev nD) : ∀ t : ℕ, pos (right^[t] c) = (pos c + t) % 16
  | 0 => by have := pos_lt c; show pos c = _; omega
  | t + 1 => by rw [Function.iterate_succ_apply', pos_right, pos_rights c t]; omega

theorem sum_round {g : ℕ → Dev nD} (hg : ∀ a b : Fin 16, pos (g a) = pos (g b) → a = b) (f : Dev nD → EReal) :
    ∑ t ∈ Finset.range 16, f (g t) = ∑ d : Dev nD, f d := by
  rw [Finset.sum_range]
  refine Fintype.sum_bijective (fun t : Fin 16 => g t) ?_ _ _ fun _ => rfl
  have hi : Function.Injective (fun t : Fin 16 => g t) := fun a b h => hg a b (congrArg pos h)
  exact (Fintype.bijective_iff_injective_and_card _).mpr ⟨hi, rfl⟩

theorem accT_all (r : Fin 32) (q : Fin 1024) (c : Dev nD) :
    (accT V 15 c (ix3 0 r q) : EReal) = ∑ d : Dev nD, (partT V d (behind c 15) (ix3 0 r q) : EReal) := by
  rw [accT_sum V r q 15 c (by decide)]
  exact sum_round (g := fun t => left^[t] c) (fun a b h => by
    have h' : pos (left^[a.val] c) = pos (left^[b.val] c) := h
    rw [pos_lefts, pos_lefts] at h'; apply Fin.ext; omega) (fun d => partT V d (behind c 15) (ix3 0 r q))
theorem accB_all (r : Fin 32) (q : Fin 1024) (c : Dev nD) :
    (accB V 15 c (ix3 0 r q) : EReal) = ∑ d : Dev nD, (partB V d (ahead c 15) (ix3 0 r q) : EReal) := by
  rw [accB_sum V r q 15 c]
  exact sum_round (g := fun t => right^[t] c) (fun a b h => by
    have h' : pos (right^[a.val] c) = pos (right^[b.val] c) := h
    rw [pos_rights, pos_rights] at h'; apply Fin.ext; omega) (fun d => partB V d (ahead c 15) (ix3 0 r q))

/-! ## The result at an index -/

theorem rowsOf_at (x : Vec Ideal S1024x1024 .f32) (p : Fin 1024) {h : ℕ} (e : p.val / 32 = h) (i : Fin 1024) :
    rowsOf x h (ix2 ⟨p.val % 32, Nat.mod_lt _ (by decide)⟩ i) = x (ix2 p i) := by
  subst e
  unfold rowsOf
  refine congrArg x (funext fun a => ?_)
  have hp := p.isLt
  fin_cases a
  · apply Fin.ext; show (32 * (p.val / 32) + p.val % 32) % 1024 = p.val; omega
  · rfl

theorem tileO_at (p q : Fin 1024) : tileO (ix2 p q) = ix3 0 ⟨p.val % 32, Nat.mod_lt _ (by decide)⟩ q := by
  funext a; fin_cases a <;> rfl

theorem res_apply (p q : Fin 1024) :
    (res V (ix2 p q) : EReal) = ∑ d : Dev nD, share (fun i => V.x d (ix2 p i)) (fun i k => V.w1 d (ix2 i k)) (fun k => V.w2 d (ix2 k q)) := by
  have hp := p.isLt
  have hc : chunk (ix2 p q) = p.val / 64 := rfl
  have hh : half (ix2 p q) = p.val / 32 := rfl
  unfold res
  rw [tileO_at, hh, hc]
  split
  · next h0 =>
    rw [accT_all]
    have e : behind (ring (p.val / 64 + 15)) 15 = p.val / 64 := by unfold behind; rw [pos_ring]; omega
    rw [e]
    refine Finset.sum_congr rfl fun d _ => ?_
    unfold partT
    rw [pay1_apply]
    exact congrArg (share · _ _) (funext fun i => rowsOf_at (V.x d) p (by omega) i)
  · next h0 =>
    rw [accB_all]
    have e : ahead (ring (p.val / 64 + 1)) 15 = p.val / 64 := by unfold ahead; rw [pos_ring]; omega
    rw [e]
    refine Finset.sum_congr rfl fun d _ => ?_
    unfold partB
    rw [pay1_apply]
    exact congrArg (share · _ _) (funext fun i => rowsOf_at (V.x d) p (by omega) i)

/-! ## The reference at an index -/

/-- The reference's result from the whole operands. -/
def refOut (x : FVec Ideal Cert.ReferenceIdeal.S1024x1024 .f32) (w1 : FVec Ideal Cert.ReferenceIdeal.S1024x32768 .f32)
    (w2 : FVec Ideal Cert.ReferenceIdeal.S32768x1024 .f32) : FVec Ideal Cert.ReferenceIdeal.S1024x1024 .f32 :=
  Host.dotGeneral Cert.ReferenceIdeal.dot_S1024x32768_S32768x1024_S1024x1024_1_0_0_1_n_n none
    (maximumf (Host.dotGeneral Cert.ReferenceIdeal.dot_S1024x1024_S1024x32768_S1024x32768_1_0_0_1_n_n none x w1)
      (broadcastInDim Cert.ReferenceIdeal.S1024x32768 ![] Cert.ReferenceIdeal.Gen.facts.toFacts₀.bcast_S_S1024x32768 (constant Cert.ReferenceIdeal.S_ .f32 0x00000000#32))) w2

set_option maxRecDepth 16384 in
theorem refOut_apply (x : FVec Ideal Cert.ReferenceIdeal.S1024x1024 .f32) (w1 : FVec Ideal Cert.ReferenceIdeal.S1024x32768 .f32)
    (w2 : FVec Ideal Cert.ReferenceIdeal.S32768x1024 .f32) (p q : Fin 1024) :
    (refOut x w1 w2 (ix2 p q) : EReal) = ∑ K : Fin 32768, max (∑ i : Fin 1024, (x (ix2 p i) : EReal) * w1 (ix2 i K)) 0 * w2 (ix2 K q) := by
  pointwise [refOut]

/-- The hidden unit a device's `k`-th column stands for. -/
def unit (d : Dev nD) (k : Fin 2048) : Fin 32768 := ⟨d.val * 2048 + k.val, by have h : d.val < 16 := d.isLt; have := k.isLt; omega⟩

theorem sum_units (f : Fin 32768 → EReal) : ∑ K : Fin 32768, f K = ∑ d : Dev nD, ∑ k : Fin 2048, f (unit d k) := by
  rw [← Fintype.sum_prod_type' (f := fun (d : Dev nD) (k : Fin 2048) => f (unit d k))]
  refine (Fintype.sum_bijective (fun y : Dev nD × Fin 2048 => unit y.1 y.2) ⟨?_, ?_⟩ _ _ fun _ => rfl).symm
  · rintro ⟨d, k⟩ ⟨d', k'⟩ h
    have h' : d.val * 2048 + k.val = d'.val * 2048 + k'.val := congrArg Fin.val h
    have := k.isLt; have := k'.isLt
    exact Prod.ext (Fin.ext (by show d.val = d'.val; omega)) (Fin.ext (by show k.val = k'.val; omega))
  · intro K
    have hK := K.isLt
    exact ⟨(⟨K.val / 2048, by show K.val / 2048 < 16; omega⟩, ⟨K.val % 2048, Nat.mod_lt _ (by decide)⟩), Fin.ext (by show K.val / 2048 * 2048 + K.val % 2048 = K.val; omega)⟩

/-- Where the devices hold their blocks of the whole operands, the kernel's result is the reference's. -/
theorem res_eq (x : FVec Ideal Cert.ReferenceIdeal.S1024x1024 .f32) (w1 : FVec Ideal Cert.ReferenceIdeal.S1024x32768 .f32)
    (w2 : FVec Ideal Cert.ReferenceIdeal.S32768x1024 .f32)
    (hx : ∀ d, V.x d = x)
    (h1 : ∀ d : Dev nD, V.w1 d = Layout.block ⟨2, ![1024, 2048]⟩ ⟨2, ![1024, 32768]⟩ 1 16 d w1)
    (h2 : ∀ d : Dev nD, V.w2 d = Layout.block ⟨2, ![2048, 1024]⟩ ⟨2, ![32768, 1024]⟩ 0 16 d w2) : res V = refOut x w1 w2 := by
  funext y
  obtain ⟨p, q, rfl⟩ : ∃ (p q : Fin 1024), y = ix2 p q := ⟨y 0, y 1, eq_ix2 y⟩
  refine (res_apply V p q).trans (Eq.trans ?_ ((refOut_apply x w1 w2 p q).trans (sum_units _)).symm)
  refine Finset.sum_congr rfl fun d _ => ?_
  unfold share
  have e1 : ∀ (i : Fin 1024) (k : Fin 2048), V.w1 d (ix2 i k) = w1 (ix2 i (unit d k)) := fun i k => by
    rw [h1]; refine congrArg w1 (funext fun a => ?_); fin_cases a <;> rfl
  have e2 : ∀ k : Fin 2048, V.w2 d (ix2 k q) = w2 (ix2 (unit d k) q) := fun k => by
    rw [h2]; refine congrArg w2 (funext fun a => ?_); fin_cases a <;> rfl
  simp only [hx, e1, e2]

end Cert.KernelIdealProof

end
-- ==== Proof.Conforms.lean ====
/-
# The kernel against the reference

From memories where every device holds its blocks of the reference's operands, every device's result buffer ends as
the reference's result.
-/
module

public import proofs.«01_k».proof.Proof.Run
public import proofs.«01_k».proof.Proof.Value
public import proofs.«01_k».proof.Defs
public import Idealize.ShloMosaic.Lib.Quiescent

@[expose] public section

noncomputable section

namespace Cert.KernelIdealProof

open Cert.KernelIdeal Cert.KernelIdeal.Gen
open Idealize.ShloMosaic Idealize.ShloMosaic.TcCoe
open Idealize.SL.Sem

section Result
variable {F : FTy → Type} [FloatOps F] (m : (ℓ : Loc nD τ sig) → Buf (Elt F) ℓ) (ρ : Dev nD → PrngReg)

/-- The result buffer's one block, read back, is what the body left in its staging buffer. -/
theorem finalA_block (c : Dev nD) : (win0_3.blk (0 : Fin 1)).view.read (Elt F) (finalA m c (3 : Fin 4)) = res (opsOf m) := by
  unfold finalA
  rw [show cfg0.N = ((0 : Fin 1) : Fin cfg0.N).val + 1 from rfl, (dats m 0 c).arrAt_succ (3 : Fin 4) (0 : Fin 1)]
  rw [show (cfg0.win (3 : Fin 4)).flush (0 : Fin 1) = true from by decide, if_pos rfl]
  exact View.read_write_univ _ _

/-- The block is the whole buffer. -/
theorem finalA_out (c : Dev nD) : finalA m c (3 : Fin 4) = res (opsOf m) := by
  have hz : (fun a => (win0_3.index (0 : Fin 1)) a * main_v1.ty.shape.size a) = fun _ => 0 := funext fun a => by fin_cases a <;> decide
  exact (Memref.read_access_unit_zero (Elt F) main_v1 hz (fun a => by fin_cases a <;> decide) _).symm.trans (finalA_block m c)

theorem opsOf_x (c : Dev nD) : (opsOf m).x c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem opsOf_w1 (c : Dev nD) : (opsOf m).w1 c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem opsOf_w2 (c : Dev nD) : (opsOf m).w2 c = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _

/-- From any memory every device's result buffer ends as the ring's sums over all devices' operands. -/
theorem run_res : θ_run defs (onTc (τ := τ) (main (F := F))) ⟨m, fun _ => 0, ρ⟩ (fun r => ∀ c : Dev nD,
    r.2.mem ((c : Thread nD τ).loc main_v1) = res (opsOf m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h.1 c 3).trans (finalA_out m c), (h.1 c 0).trans (finalA_arg0 m c), (h.1 c 1).trans (finalA_arg1 m c), (h.1 c 2).trans (finalA_arg2 m c)⟩)
    (run_main m ρ)
end Result

/-- The reference ends with its arguments as they were and its counters at zero. -/
theorem reference_keeps (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems rfl r.2⟩) (Cert.ReferenceIdeal.Value.run (F := Ideal) m g)

theorem algebraic : Cert.algebraic_KernelIdeal_ReferenceIdeal (hKernelIdeal := Cert.KernelIdeal.Gen.facts) (hReferenceIdeal := Cert.ReferenceIdeal.Gen.facts) := by
  intro m g m' g' _ h
  refine ⟨_, ?_, (θ_run _ _ _).mono (fun r hr => hr 0) (Cert.ReferenceIdeal.Value.run (F := Ideal) m' g')⟩
  refine (θ_run _ _ _).mono (fun r hr c => ⟨(hr c).1.trans ?_, (hr c).2⟩) (run_res m g)
  exact res_eq (opsOf m) _ _ _ (fun d => (opsOf_x m d).trans (h d).1) (fun d => (opsOf_w1 m d).trans (h d).2.1) (fun d => (opsOf_w2 m d).trans (h d).2.2)

end Cert.KernelIdealProof

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Float.Run
public import proofs.«01_k».proof.Proof.Conforms
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.KernelProof.run_keeps m g, fun m g _ => Cert.KernelIdealProof.run_keeps m g,
  fun m g _ => Cert.KernelIdealProof.reference_keeps m g, trivial, Cert.KernelIdealProof.algebraic⟩

end Cert.Proof

end
